-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grad_is_finite [hPre_grad_is_finite : Cert.Pre_grad_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_grad_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grad_is_finite [hPre_grad_is_finite : Cert.Pre_grad_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grad_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_grad_is_finite [hKernelIdeal : Cert.KernelIdeal.Facts] [hPre_grad_is_finite : Cert.Pre_grad_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grad_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_grad_is_finite [hReferenceIdeal : Cert.ReferenceIdeal.Facts] [hPre_grad_is_finite : Cert.Pre_grad_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grad_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "k_c" .f32 0x3D122279#32 ((80338380498831 / 2251799813685248 : ℝ) : EReal)
  ∧ IdealRules.named_const.Statement Cert.KernelIdeal.κ "k_c_3half" .f32 0x3D5B33B6#32 ((241015141496493 / 4503599627370496 : ℝ) : EReal)

def algebraic_KernelIdeal_ReferenceIdeal_pre_grad_is_finite [hKernelIdeal : Cert.KernelIdeal.Facts] [hReferenceIdeal : Cert.ReferenceIdeal.Facts] [hPre_grad_is_finite : Cert.Pre_grad_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grad_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v89_0) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v89_1) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_grad_is_finite : Cert.Pre_grad_is_finite.Facts),
    quiescent_Kernel (hKernel := hKernel)
    ∧ quiescent_KernelIdeal (hKernelIdeal := hKernelIdeal)
    ∧ quiescent_KernelIdeal_pre_grad_is_finite (hKernelIdeal := hKernelIdeal) (hPre_grad_is_finite := hPre_grad_is_finite)
    ∧ quiescent_ReferenceIdeal (hReferenceIdeal := hReferenceIdeal)
    ∧ quiescent_ReferenceIdeal_pre_grad_is_finite (hReferenceIdeal := hReferenceIdeal) (hPre_grad_is_finite := hPre_grad_is_finite)
    ∧ preserves_Kernel_KernelIdeal
    ∧ algebraic_KernelIdeal_ReferenceIdeal_pre_grad_is_finite (hKernelIdeal := hKernelIdeal) (hReferenceIdeal := hReferenceIdeal) (hPre_grad_is_finite := hPre_grad_is_finite)
-- ==== Pre_grad_is_finite.lean ====
abbrev S256x26624 : Shape := ⟨2, ![256, 26624]⟩
abbrev S_ : Shape := ⟨0, ![]⟩

class Facts : Prop where
  bcast_S_S256x26624 : S_.BroadcastsInDim S256x26624 (![] : Fin 0 → Fin S256x26624.rank)

variable [Facts]

def fn {F : FTy → Type} [FloatOps F] (main_arg0 : FVec F S256x26624 .bf16) (main_arg1 : FVec F S256x26624 .bf16) : IVec S256x26624 1 :=
  let main_v0 : FVec F S256x26624 .bf16 := Host.absf main_arg0
  let main_cst : FVec F S_ .bf16 := constant S_ .bf16 0x7F7F#16
  let main_v1 : FVec F S256x26624 .bf16 := broadcastInDim S256x26624 ![] bcast_S_S256x26624 main_cst
  let main_v2 : IVec S256x26624 1 := cmpf .ole main_v0 main_v1
  main_v2
-- ==== Kernel.lean ====
abbrev S256x26624 : Shape := ⟨2, ![256, 26624]⟩
abbrev S1x26624 : Shape := ⟨2, ![1, 26624]⟩
abbrev S208x256 : Shape := ⟨2, ![208, 256]⟩
abbrev S26624x256 : Shape := ⟨2, ![26624, 256]⟩
abbrev S2x26624 : Shape := ⟨2, ![2, 26624]⟩
abbrev S256x1024 : Shape := ⟨2, ![256, 1024]⟩
abbrev S1x1024 : Shape := ⟨2, ![1, 1024]⟩
abbrev S8x256 : Shape := ⟨2, ![8, 256]⟩
abbrev S1024x256 : Shape := ⟨2, ![1024, 256]⟩
abbrev S2x1024 : Shape := ⟨2, ![2, 1024]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S26624 : Shape := ⟨1, ![26624]⟩
abbrev S256x208 : Shape := ⟨2, ![256, 208]⟩
abbrev S26624x2 : Shape := ⟨2, ![26624, 2]⟩

abbrev nBuf : Space → Nat
  | .hbm => 10
  | .vmem => 14
  | .smem => 0
  | _ => 0

abbrev bufTy : (tb : Table) → Fin (tcTables nBuf tb) → BufTy
  | .hbm, ⟨0, _⟩ => ⟨S256x26624, .bf16⟩
  | .hbm, ⟨1, _⟩ => ⟨S256x26624, .bf16⟩
  | .hbm, ⟨2, _⟩ => ⟨S1x26624, .f32⟩
  | .hbm, ⟨3, _⟩ => ⟨S256x26624, .fp8e5m2⟩
  | .hbm, ⟨4, _⟩ => ⟨S208x256, .f32⟩
  | .hbm, ⟨5, _⟩ => ⟨S26624x256, .fp8e5m2⟩
  | .hbm, ⟨6, _⟩ => ⟨S2x26624, .f32⟩
  | .hbm, ⟨7, _⟩ => ⟨S26624, .f32⟩
  | .hbm, ⟨8, _⟩ => ⟨S256x208, .f32⟩
  | .hbm, ⟨9, _⟩ => ⟨S26624x2, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .fp8e5m2⟩
  | .local _ .vmem, ⟨7, _⟩ => ⟨S256x1024, .fp8e5m2⟩
  | .local _ .vmem, ⟨8, _⟩ => ⟨S8x256, .f32⟩
  | .local _ .vmem, ⟨9, _⟩ => ⟨S8x256, .f32⟩
  | .local _ .vmem, ⟨10, _⟩ => ⟨S1024x256, .fp8e5m2⟩
  | .local _ .vmem, ⟨11, _⟩ => ⟨S1024x256, .fp8e5m2⟩
  | .local _ .vmem, ⟨12, _⟩ => ⟨S2x1024, .f32⟩
  | .local _ .vmem, ⟨13, _⟩ => ⟨S2x1024, .f32⟩
  | _, _ => ⟨S256x26624, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "k_c" => some ((80338380498831 / 2251799813685248 : ℝ) : EReal)
  | "k_c_3half" => some ((241015141496493 / 4503599627370496 : ℝ) : EReal)
  | _ => none
-- ==== ReferenceIdeal.lean ====
abbrev S256x26624 : Shape := ⟨2, ![256, 26624]⟩
abbrev S_ : Shape := ⟨0, ![]⟩
abbrev S26624 : Shape := ⟨1, ![26624]⟩
abbrev S256x208x128 : Shape := ⟨3, ![256, 208, 128]⟩
abbrev S256x208 : Shape := ⟨2, ![256, 208]⟩
abbrev S256x208x1 : Shape := ⟨3, ![256, 208, 1]⟩
abbrev S2x128x26624 : Shape := ⟨3, ![2, 128, 26624]⟩
abbrev S2x26624 : Shape := ⟨2, ![2, 26624]⟩
abbrev S2x1x26624 : Shape := ⟨3, ![2, 1, 26624]⟩
abbrev S26624x256 : Shape := ⟨2, ![26624, 256]⟩
abbrev S26624x2 : Shape := ⟨2, ![26624, 2]⟩

abbrev nBuf : Space → Nat
  | .hbm => 144
  | .vmem => 4
  | .smem => 0
  | _ => 0

abbrev hbmTy0_0 (i : Nat) : BufTy := match i % 128 with
  | 0 => ⟨S256x26624, .bf16⟩
  | 1 => ⟨S256x26624, .bf16⟩
  | 2 => ⟨S256x26624, .f32⟩
  | 3 => ⟨S256x26624, .f32⟩
  | 4 => ⟨S_, .f32⟩
  | 5 => ⟨S256x26624, .f32⟩
  | 6 => ⟨S256x26624, .f32⟩
  | 7 => ⟨S256x26624, .f32⟩
  | 8 => ⟨S256x26624, .f32⟩
  | 9 => ⟨S256x26624, .f32⟩
  | 10 => ⟨S_, .f32⟩
  | 11 => ⟨S256x26624, .f32⟩
  | 12 => ⟨S256x26624, .f32⟩
  | 13 => ⟨S256x26624, .f32⟩
  | 14 => ⟨S_, .f32⟩
  | 15 => ⟨S256x26624, .f32⟩
  | 16 => ⟨S256x26624, .f32⟩
  | 17 => ⟨S_, .f32⟩
  | 18 => ⟨S256x26624, .f32⟩
  | 19 => ⟨S256x26624, .f32⟩
  | 20 => ⟨S_, .f32⟩
  | 21 => ⟨S256x26624, .f32⟩
  | 22 => ⟨S256x26624, .f32⟩
  | 23 => ⟨S256x26624, .f32⟩
  | 24 => ⟨S_, .f32⟩
  | 25 => ⟨S256x26624, .f32⟩
  | 26 => ⟨S256x26624, .f32⟩
  | 27 => ⟨S256x26624, .f32⟩
  | 28 => ⟨S_, .f32⟩
  | 29 => ⟨S256x26624, .f32⟩
  | 30 => ⟨S256x26624, .f32⟩
  | 31 => ⟨S_, .f32⟩
  | 32 => ⟨S256x26624, .f32⟩
  | 33 => ⟨S256x26624, .f32⟩
  | 34 => ⟨S256x26624, .f32⟩
  | 35 => ⟨S_, .f32⟩
  | 36 => ⟨S256x26624, .f32⟩
  | 37 => ⟨S256x26624, .f32⟩
  | 38 => ⟨S_, .f32⟩
  | 39 => ⟨S256x26624, .f32⟩
  | 40 => ⟨S256x26624, .f32⟩
  | 41 => ⟨S256x26624, .f32⟩
  | 42 => ⟨S256x26624, .f32⟩
  | 43 => ⟨S256x26624, .f32⟩
  | 44 => ⟨S_, .f32⟩
  | 45 => ⟨S26624, .f32⟩
  | 46 => ⟨S256x208x128, .f32⟩
  | 47 => ⟨S256x208x128, .f32⟩
  | 48 => ⟨S_, .f32⟩
  | 49 => ⟨S256x208, .f32⟩
  | 50 => ⟨S_, .f32⟩
  | 51 => ⟨S256x208, .f32⟩
  | 52 => ⟨S256x208, .f32⟩
  | 53 => ⟨S_, .f32⟩
  | 54 => ⟨S256x208, .f32⟩
  | 55 => ⟨S256x208, .i1⟩
  | 56 => ⟨S_, .f32⟩
  | 57 => ⟨S_, .f32⟩
  | 58 => ⟨S256x208, .f32⟩
  | 59 => ⟨S256x208, .f32⟩
  | 60 => ⟨S256x208, .f32⟩
  | 61 => ⟨S_, .f32⟩
  | 62 => ⟨S_, .f32⟩
  | 63 => ⟨S_, .f32⟩
  | 64 => ⟨S256x208, .f32⟩
  | 65 => ⟨S256x208, .f32⟩
  | 66 => ⟨S256x208, .f32⟩
  | 67 => ⟨S_, .f32⟩
  | 68 => ⟨S256x208, .f32⟩
  | 69 => ⟨S256x208, .f32⟩
  | 70 => ⟨S_, .f32⟩
  | 71 => ⟨S_, .f32⟩
  | 72 => ⟨S256x208, .f32⟩
  | 73 => ⟨S256x208, .f32⟩
  | 74 => ⟨S_, .f32⟩
  | 75 => ⟨S256x208, .f32⟩
  | 76 => ⟨S256x208, .f32⟩
  | 77 => ⟨S256x208, .f32⟩
  | 78 => ⟨S_, .f32⟩
  | 79 => ⟨S256x208, .f32⟩
  | 80 => ⟨S256x208, .f32⟩
  | 81 => ⟨S256x208x1, .f32⟩
  | 82 => ⟨S256x208x128, .f32⟩
  | 83 => ⟨S256x208x128, .f32⟩
  | 84 => ⟨S_, .f32⟩
  | 85 => ⟨S_, .f32⟩
  | 86 => ⟨S_, .f32⟩
  | 87 => ⟨S256x208x128, .f32⟩
  | 88 => ⟨S256x208x128, .f32⟩
  | 89 => ⟨S_, .f32⟩
  | 90 => ⟨S256x208x128, .f32⟩
  | 91 => ⟨S256x208x128, .f32⟩
  | 92 => ⟨S256x26624, .f32⟩
  | 93 => ⟨S2x128x26624, .f32⟩
  | 94 => ⟨S2x128x26624, .f32⟩
  | 95 => ⟨S_, .f32⟩
  | 96 => ⟨S2x26624, .f32⟩
  | 97 => ⟨S_, .f32⟩
  | 98 => ⟨S2x26624, .f32⟩
  | 99 => ⟨S2x26624, .f32⟩
  | 100 => ⟨S_, .f32⟩
  | 101 => ⟨S2x26624, .f32⟩
  | 102 => ⟨S2x26624, .i1⟩
  | 103 => ⟨S_, .f32⟩
  | 104 => ⟨S_, .f32⟩
  | 105 => ⟨S2x26624, .f32⟩
  | 106 => ⟨S2x26624, .f32⟩
  | 107 => ⟨S2x26624, .f32⟩
  | 108 => ⟨S_, .f32⟩
  | 109 => ⟨S_, .f32⟩
  | 110 => ⟨S_, .f32⟩
  | 111 => ⟨S2x26624, .f32⟩
  | 112 => ⟨S2x26624, .f32⟩
  | 113 => ⟨S2x26624, .f32⟩
  | 114 => ⟨S_, .f32⟩
  | 115 => ⟨S2x26624, .f32⟩
  | 116 => ⟨S2x26624, .f32⟩
  | 117 => ⟨S_, .f32⟩
  | 118 => ⟨S_, .f32⟩
  | 119 => ⟨S2x26624, .f32⟩
  | 120 => ⟨S2x26624, .f32⟩
  | 121 => ⟨S_, .f32⟩
  | 122 => ⟨S2x26624, .f32⟩
  | 123 => ⟨S2x26624, .f32⟩
  | 124 => ⟨S2x26624, .f32⟩
  | 125 => ⟨S_, .f32⟩
  | 126 => ⟨S2x26624, .f32⟩
  | 127 => ⟨S2x26624, .f32⟩
  | _ => ⟨S256x26624, .bf16⟩

abbrev hbmTy0_1 (i : Nat) : BufTy := match i % 128 with
  | 0 => ⟨S2x1x26624, .f32⟩
  | 1 => ⟨S2x128x26624, .f32⟩
  | 2 => ⟨S2x128x26624, .f32⟩
  | 3 => ⟨S_, .f32⟩
  | 4 => ⟨S_, .f32⟩
  | 5 => ⟨S_, .f32⟩
  | 6 => ⟨S2x128x26624, .f32⟩
  | 7 => ⟨S2x128x26624, .f32⟩
  | 8 => ⟨S_, .f32⟩
  | 9 => ⟨S2x128x26624, .f32⟩
  | 10 => ⟨S2x128x26624, .f32⟩
  | 11 => ⟨S256x26624, .f32⟩
  | 12 => ⟨S26624x256, .f32⟩
  | 13 => ⟨S26624x2, .f32⟩
  | 14 => ⟨S256x26624, .fp8e5m2⟩
  | 15 => ⟨S26624x256, .fp8e5m2⟩
  | _ => ⟨S256x26624, .bf16⟩

abbrev hbmTy (i : Nat) : BufTy := match i / 128 with
  | 0 => hbmTy0_0 i
  | 1 => hbmTy0_1 i
  | _ => ⟨S256x26624, .bf16⟩

abbrev bufTy : (tb : Table) → Fin (tcTables nBuf tb) → BufTy
  | .hbm, ⟨i, _⟩ => hbmTy i
  | .local _ .vmem, ⟨0, _⟩ => ⟨S256x26624, .f32⟩
  | .local _ .vmem, ⟨1, _⟩ => ⟨S26624x256, .f32⟩
  | .local _ .vmem, ⟨2, _⟩ => ⟨S256x26624, .fp8e5m2⟩
  | .local _ .vmem, ⟨3, _⟩ => ⟨S26624x256, .fp8e5m2⟩
  | _, _ => ⟨S256x26624, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_cst_13 : Ref sig .tc := ⟨.hbm, 56, rfl⟩
abbrev main_call0_v0 : Ref sig .tc := ⟨.hbm, 57, rfl⟩
abbrev main_call0_v1 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_cst_16 : Ref sig .tc := ⟨.hbm, 70, rfl⟩
abbrev main_call1_v0 : Ref sig .tc := ⟨.hbm, 71, rfl⟩
abbrev main_call1_v1 : Ref sig .tc := ⟨.hbm, 72, rfl⟩
abbrev main_v49 : Ref sig .tc := ⟨.hbm, 73, rfl⟩
abbrev main_cst_17 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_18 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_cst_20 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_21 : Ref sig .tc := ⟨.hbm, 95, rfl⟩
abbrev main_v62 : Ref sig .tc := ⟨.hbm, 96, rfl⟩
abbrev main_cst_22 : Ref sig .tc := ⟨.hbm, 97, rfl⟩
abbrev main_v63 : Ref sig .tc := ⟨.hbm, 98, rfl⟩
abbrev main_v64 : Ref sig .tc := ⟨.hbm, 99, rfl⟩
abbrev main_cst_23 : Ref sig .tc := ⟨.hbm, 100, rfl⟩
abbrev main_v65 : Ref sig .tc := ⟨.hbm, 101, rfl⟩
abbrev main_v66 : Ref sig .tc := ⟨.hbm, 102, rfl⟩
abbrev main_cst_24 : Ref sig .tc := ⟨.hbm, 103, rfl⟩
abbrev main_call3_v0 : Ref sig .tc := ⟨.hbm, 104, rfl⟩
abbrev main_call3_v1 : Ref sig .tc := ⟨.hbm, 105, rfl⟩
abbrev main_v67 : Ref sig .tc := ⟨.hbm, 106, rfl⟩
abbrev main_v68 : Ref sig .tc := ⟨.hbm, 107, rfl⟩
abbrev main_cst_25 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_26 : Ref sig .tc := ⟨.hbm, 114, rfl⟩
abbrev main_v74 : Ref sig .tc := ⟨.hbm, 115, rfl⟩
abbrev main_v75 : Ref sig .tc := ⟨.hbm, 116, rfl⟩
abbrev main_cst_27 : Ref sig .tc := ⟨.hbm, 117, rfl⟩
abbrev main_call4_v0 : Ref sig .tc := ⟨.hbm, 118, rfl⟩
abbrev main_call4_v1 : Ref sig .tc := ⟨.hbm, 119, rfl⟩
abbrev main_v76 : Ref sig .tc := ⟨.hbm, 120, rfl⟩
abbrev main_cst_28 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_29 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_30 : Ref sig .tc := ⟨.hbm, 131, rfl⟩
abbrev main_cst_31 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89_0 : Ref sig .tc := ⟨.hbm, 142, rfl⟩
abbrev main_v89_1 : Ref sig .tc := ⟨.hbm, 143, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x26624 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S26624x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x26624 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S26624x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Consts.lean ====
/- The two named constants of the kernel: each f32 word denotes its real number in the idealized program. -/
module

public import proofs.«01_k».proof.Defs

@[expose] public section

noncomputable section

namespace Cert.Proof

open Idealize.ShloMosaic

/-- The idealized kernel is the kernel with each of its two named constants read as the real number it stands for. -/
theorem preserves : Cert.preserves_Kernel_KernelIdeal :=
  ⟨IdealRules.named_const.statement Cert.KernelIdeal.κ "k_c" .f32 0x3D122279#32 _ rfl,
   IdealRules.named_const.statement Cert.KernelIdeal.κ "k_c_3half" .f32 0x3D5B33B6#32 _ rfl⟩

end Cert.Proof

end
-- ==== Proof.Ref.lean ====
/- The reference's arrays, as functions of its two arguments. -/
module

public import proofs.«01_k».proof.Proof.Gen.ReferenceIdeal.Value
public import Idealize.ShloMosaic.Lib.Pipeline.ValueKit

@[expose] public section

set_option maxRecDepth 16384

noncomputable section

namespace Cert.ReferenceIdeal.Ref

open Cert.ReferenceIdeal Cert.ReferenceIdeal.Gen Idealize.ShloMosaic Idealize.ShloMosaic.TcCoe Idealize.SL.Sem

variable {F : FTy → Type} [FloatOps F]

/-- A scalar constant, broadcast. -/
abbrev cst {s : Shape} (h : S_.BroadcastsInDim s (![] : Fin 0 → Fin s.rank)) (b : BitVec 32) : FVec F s .f32 :=
  broadcastInDim s ![] h (constant S_ .f32 b)

/-- The product with the gradient of gelu. -/
def dg (g x : FVec F S256x26624 .bf16) : FVec F S256x26624 .f32 :=
  have xf : FVec F S256x26624 .f32 := extf .f32 x bitsLt_bf16_f32
  have t : FVec F S256x26624 .f32 := Host.tanh (mulf (cst bcast_S_S256x26624 0x3F4C422A#32)
    (addf xf (mulf (mulf (mulf (cst bcast_S_S256x26624 0x3D372713#32) xf) xf) xf)))
  mulf (extf .f32 g bitsLt_bf16_f32) (addf
    (mulf (cst bcast_S_S256x26624 0x3F000000#32) (addf (cst bcast_S_S256x26624 0x3F800000#32) t))
    (mulf (mulf (mulf (mulf (cst bcast_S_S256x26624 0x3F000000#32) xf)
        (subf (cst bcast_S_S256x26624 0x3F800000#32) (mulf t t))) (cst bcast_S_S256x26624 0x3F4C422A#32))
      (addf (cst bcast_S_S256x26624 0x3F800000#32) (mulf (cst bcast_S_S256x26624 0x40400000#32)
        (mulf (mulf (cst bcast_S_S256x26624 0x3D372713#32) xf) xf)))))

/-- Whether a maximum, over the greatest code, is a normal f32. -/
def normal {s : Shape} (h : S_.BroadcastsInDim s (![] : Fin 0 → Fin s.rank)) (v : FVec F s .f32) : IVec s 1 :=
  cmpf .oge v (cst h 0x00800000#32)

/-- The exponent of the quantiser's power of two. -/
def expo {s : Shape} (h : S_.BroadcastsInDim s (![] : Fin 0 → Fin s.rank)) (v : FVec F s .f32) : FVec F s .f32 :=
  select (normal h v) (addf (Host.floor (Host.divf (Host.log (select (normal h v) v (cst h 0x3F800000#32)))
    (broadcastInDim s ![] h (Host.log (constant S_ .f32 0x40000000#32))))) (cst h 0x3F800000#32)) (cst h 0x00000000#32)

/-- The scale of a maximum over the greatest code. -/
def scale {s : Shape} (h : S_.BroadcastsInDim s (![] : Fin 0 → Fin s.rank)) (v : FVec F s .f32) : FVec F s .f32 :=
  Host.powf (cst h 0x40000000#32) (expo h v)

/-- The inverse of the scale. -/
def inv {s : Shape} (h : S_.BroadcastsInDim s (![] : Fin 0 → Fin s.rank)) (v : FVec F s .f32) : FVec F s .f32 :=
  Host.powf (cst h 0x40000000#32) (Host.negf (expo h v))

/-- The column sums. -/
def dbias (d : FVec F S256x26624 .f32) : FVec F S26624 .f32 :=
  Host.reduceAdd d (constant S_ .f32 0x00000000#32) reducesTo_S256x26624_S26624_d0 h_S_

/-- The greatest magnitudes of the row groups, over the greatest code. -/
def rowV (d : FVec F S256x26624 .f32) : FVec F S256x208 .f32 :=
  mulf (Host.reduce FloatOps.maximumf (Host.absf (shapeCast S256x208x128 d shapeCasts_S256x26624_S256x208x128))
    (constant S_ .f32 0xFF800000#32) reducesTo_S256x208x128_S256x208_d2 h_S_) (cst bcast_S_S256x208 0x37924925#32)

/-- The greatest magnitudes of the column groups, over the greatest code. -/
def colV (d : FVec F S256x26624 .f32) : FVec F S2x26624 .f32 :=
  mulf (Host.reduce FloatOps.maximumf (Host.absf (shapeCast S2x128x26624 d shapeCasts_S256x26624_S2x128x26624))
    (constant S_ .f32 0xFF800000#32) reducesTo_S2x128x26624_S2x26624_d1 h_S_) (cst bcast_S_S2x26624 0x37924925#32)

/-- A vector clipped to the range of the codes. -/
def clip {s : Shape} (h : S_.BroadcastsInDim s (![] : Fin 0 → Fin s.rank)) (v : FVec F s .f32) : FVec F s .f32 :=
  minimumf (cst h 0x47600000#32) (maximumf (cst h 0xC7600000#32) v)

/-- The rows, scaled and clipped. -/
def row (d : FVec F S256x26624 .f32) : FVec F S256x26624 .f32 :=
  shapeCast S256x26624 (clip bcast_S_S256x208x128 (mulf (shapeCast S256x208x128 d shapeCasts_S256x26624_S256x208x128)
    (broadcastInDim S256x208x128 ![0, 1, 2] bcast_S256x208x1_S256x208x128_0_1_2
      (broadcastInDim S256x208x1 ![0, 1] bcast_S256x208_S256x208x1_0_1 (inv bcast_S_S256x208 (rowV d))))))
    shapeCasts_S256x208x128_S256x26624

/-- The columns, scaled, clipped and transposed. -/
def col (d : FVec F S256x26624 .f32) : FVec F S26624x256 .f32 :=
  transpose S26624x256 [1, 0] (shapeCast S256x26624 (clip bcast_S_S2x128x26624
    (mulf (shapeCast S2x128x26624 d shapeCasts_S256x26624_S2x128x26624)
    (broadcastInDim S2x128x26624 ![0, 1, 2] bcast_S2x1x26624_S2x128x26624_0_1_2
      (broadcastInDim S2x1x26624 ![0, 2] bcast_S2x26624_S2x1x26624_0_2 (inv bcast_S_S2x26624 (colV d))))))
    shapeCasts_S2x128x26624_S256x26624) transposes_S256x26624_S26624x256_1_0

/-- The row scales. -/
def rowScales (d : FVec F S256x26624 .f32) : FVec F S256x208 .f32 := scale bcast_S_S256x208 (rowV d)

/-- The column scales, transposed. -/
def colScales (d : FVec F S256x26624 .f32) : FVec F S26624x2 .f32 :=
  transpose S26624x2 [1, 0] (scale bcast_S_S2x26624 (colV d)) transposes_S2x26624_S26624x2_1_0

end Cert.ReferenceIdeal.Ref

end
-- ==== Proof.Tile.lean ====
/- The tile of the kernel: what the body computes of one 128 x 128 tile of the two inputs, as functions of the two
   tiles, and what it stores in each output block as pieces of these functions. -/
module

public import proofs.«01_k».proof.Proof.Gen.KernelIdeal.Frame

@[expose] public section

set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F] [Named F]

/-- One step of the bisection for the exponent field: the bit `b` is taken unless `v` lies under the float of the word
    with it. -/
def step {s : Shape} (b : BitVec 32) (v : FVec F s .f32) (e : IVec s 32) : IVec s 32 :=
  select (cmpf .olt v (bitcastToFloat .f32 (addi e (broadcast s b)))) e (addi e (broadcast s b))

/-- The exponent field of `v`, in place in the word, by eight steps. -/
def field {s : Shape} (v : FVec F s .f32) : IVec s 32 :=
  step 8388608#32 v (step 16777216#32 v (step 33554432#32 v (step 67108864#32 v (step 134217728#32 v
    (step 268435456#32 v (step 536870912#32 v (step 1073741824#32 v (broadcast s 0#32))))))))

/-- Whether the exponent field is that of a normal number. -/
def ok {s : Shape} (v : FVec F s .f32) : IVec s 1 :=
  andi (cmpi .ne (field v) (broadcast s 0#32)) (cmpi .ne (field v) (broadcast s 2139095040#32))

/-- The scale: the power of two above `v`, or one. -/
def scale {s : Shape} (v : FVec F s .f32) : FVec F s .f32 :=
  select (ok v) (bitcastToFloat .f32 (addi (field v) (broadcast s 8388608#32)))
    (broadcast s (Scalar.ofBits .f32 0x3F800000#32))

/-- The inverse of the scale, or one. -/
def inv {s : Shape} (v : FVec F s .f32) : FVec F s .f32 :=
  select (ok v) (bitcastToFloat .f32 (subi (broadcast s 2122317824#32) (field v)))
    (broadcast s (Scalar.ofBits .f32 0x3F800000#32))

/-- The product with the gradient of gelu, a tile. -/
def dg (g x : Vec F S128x128 .bf16) : FVec F S128x128 .f32 := k0_pay2 g x

/-- The greatest magnitude of each row of a tile, over the greatest code. -/
def rowV (g x : Vec F S128x128 .bf16) : FVec F S128x1 .f32 :=
  mulf (shapeCast S128x1 (multiReduction .maximumf [1] S128 (absf (dg g x)) 0xFF800000#32 reduces_S128x128_S128_2 (.inl rfl) rfl)
    shapeCasts_S128_S128x1) (broadcast S128x1 (Scalar.ofBits .f32 0x37924925#32))

/-- The greatest magnitude of each column of a tile, over the greatest code. -/
def colV (g x : Vec F S128x128 .bf16) : FVec F S1x128 .f32 :=
  mulf (shapeCast S1x128 (multiReduction .maximumf [0] S128 (absf (dg g x)) 0xFF800000#32 reduces_S128x128_S128 (.inl rfl) rfl)
    shapeCasts_S128_S1x128) (broadcast S1x128 (Scalar.ofBits .f32 0x37924925#32))

/-- A tile clipped to the range of the codes, and cast. -/
def code (d : FVec F S128x128 .f32) : FVec F S128x128 .fp8e5m2 :=
  truncf .fp8e5m2 (minimumf (broadcast S128x128 (Scalar.ofBits .f32 0x47600000#32))
    (maximumf (broadcast S128x128 (Scalar.ofBits .f32 0xC7600000#32)) d)) bitsLt_fp8e5m2_f32

/-- The row codes of a tile. -/
def rowCodes (g x : Vec F S128x128 .bf16) : FVec F S128x128 .fp8e5m2 :=
  code (mulf (dg g x) (broadcastTo S128x128 (inv (rowV g x)) broadcasts_S128x1_S128x128))

/-- The row scales of a tile, as one row. -/
def rowScales (g x : Vec F S128x128 .bf16) : FVec F S1x128 .f32 :=
  transpose S1x128 [1, 0] (scale (rowV g x)) transposes_S128x1_p1_0_S1x128

/-- The column codes of a tile, transposed. -/
def colCodes (g x : Vec F S128x128 .bf16) : FVec F S128x128 .fp8e5m2 :=
  transpose S128x128 [1, 0] (code (mulf (dg g x) (broadcastTo S128x128 (inv (colV g x)) broadcasts_S1x128_S128x128)))
    transposes_S128x128_p1_0_S128x128

/-- The column scales of a tile. -/
def colScales (g x : Vec F S128x128 .bf16) : FVec F S1x128 .f32 := scale (colV g x)

/-- The column sums of a tile. -/
def colSum (g x : Vec F S128x128 .bf16) : FVec F S1x128 .f32 :=
  shapeCast S1x128 (multiReduction .add [0] S128 (dg g x) 0x00000000#32 reduces_S128x128_S128 (.inl rfl) rfl)
    shapeCasts_S128_S1x128

/-- The column sums of two tiles, the one above the other, from zero. -/
def colSums (g x g' x' : Vec F S128x128 .bf16) : FVec F S1x128 .f32 :=
  addf (addf (broadcast S1x128 (Scalar.ofBits .f32 0x00000000#32)) (colSum g x)) (colSum g' x')

/-- What the body stores of the column sums, one piece for each tile, each a function of the tile's two loads. -/
theorem out2_eq (x0 x1 : Vec F S256x1024 .bf16) : out0_2 x0 x1 = View.canon [⟨r0_71, colSums (View.ld x0 r0_63) (View.ld x1 r0_63) (View.ld x0 r0_67) (View.ld x1 r0_67)⟩,
    ⟨r0_62, colSums (View.ld x0 r0_54) (View.ld x1 r0_54) (View.ld x0 r0_58) (View.ld x1 r0_58)⟩,
    ⟨r0_53, colSums (View.ld x0 r0_45) (View.ld x1 r0_45) (View.ld x0 r0_49) (View.ld x1 r0_49)⟩,
    ⟨r0_44, colSums (View.ld x0 r0_36) (View.ld x1 r0_36) (View.ld x0 r0_40) (View.ld x1 r0_40)⟩,
    ⟨r0_35, colSums (View.ld x0 r0_27) (View.ld x1 r0_27) (View.ld x0 r0_31) (View.ld x1 r0_31)⟩,
    ⟨r0_26, colSums (View.ld x0 r0_18) (View.ld x1 r0_18) (View.ld x0 r0_22) (View.ld x1 r0_22)⟩,
    ⟨r0_17, colSums (View.ld x0 r0_9) (View.ld x1 r0_9) (View.ld x0 r0_13) (View.ld x1 r0_13)⟩,
    ⟨r0_8, colSums (View.ld x0 r0_0) (View.ld x1 r0_0) (View.ld x0 r0_4) (View.ld x1 r0_4)⟩] := rfl

/-- What the body stores of the row codes, one piece for each tile, each a function of the tile's two loads. -/
theorem out3_eq (x0 x1 : Vec F S256x1024 .bf16) : out0_3 x0 x1 = View.canon [⟨r0_67, rowCodes (View.ld x0 r0_67) (View.ld x1 r0_67)⟩,
    ⟨r0_63, rowCodes (View.ld x0 r0_63) (View.ld x1 r0_63)⟩,
    ⟨r0_58, rowCodes (View.ld x0 r0_58) (View.ld x1 r0_58)⟩,
    ⟨r0_54, rowCodes (View.ld x0 r0_54) (View.ld x1 r0_54)⟩,
    ⟨r0_49, rowCodes (View.ld x0 r0_49) (View.ld x1 r0_49)⟩,
    ⟨r0_45, rowCodes (View.ld x0 r0_45) (View.ld x1 r0_45)⟩,
    ⟨r0_40, rowCodes (View.ld x0 r0_40) (View.ld x1 r0_40)⟩,
    ⟨r0_36, rowCodes (View.ld x0 r0_36) (View.ld x1 r0_36)⟩,
    ⟨r0_31, rowCodes (View.ld x0 r0_31) (View.ld x1 r0_31)⟩,
    ⟨r0_27, rowCodes (View.ld x0 r0_27) (View.ld x1 r0_27)⟩,
    ⟨r0_22, rowCodes (View.ld x0 r0_22) (View.ld x1 r0_22)⟩,
    ⟨r0_18, rowCodes (View.ld x0 r0_18) (View.ld x1 r0_18)⟩,
    ⟨r0_13, rowCodes (View.ld x0 r0_13) (View.ld x1 r0_13)⟩,
    ⟨r0_9, rowCodes (View.ld x0 r0_9) (View.ld x1 r0_9)⟩,
    ⟨r0_4, rowCodes (View.ld x0 r0_4) (View.ld x1 r0_4)⟩,
    ⟨r0_0, rowCodes (View.ld x0 r0_0) (View.ld x1 r0_0)⟩] := rfl

/-- What the body stores of the row scales, one piece for each tile, each a function of the tile's two loads. -/
theorem out4_eq (x0 x1 : Vec F S256x1024 .bf16) : out0_4 x0 x1 = View.canon [⟨r0_68, rowScales (View.ld x0 r0_67) (View.ld x1 r0_67)⟩,
    ⟨r0_64, rowScales (View.ld x0 r0_63) (View.ld x1 r0_63)⟩,
    ⟨r0_59, rowScales (View.ld x0 r0_58) (View.ld x1 r0_58)⟩,
    ⟨r0_55, rowScales (View.ld x0 r0_54) (View.ld x1 r0_54)⟩,
    ⟨r0_50, rowScales (View.ld x0 r0_49) (View.ld x1 r0_49)⟩,
    ⟨r0_46, rowScales (View.ld x0 r0_45) (View.ld x1 r0_45)⟩,
    ⟨r0_41, rowScales (View.ld x0 r0_40) (View.ld x1 r0_40)⟩,
    ⟨r0_37, rowScales (View.ld x0 r0_36) (View.ld x1 r0_36)⟩,
    ⟨r0_32, rowScales (View.ld x0 r0_31) (View.ld x1 r0_31)⟩,
    ⟨r0_28, rowScales (View.ld x0 r0_27) (View.ld x1 r0_27)⟩,
    ⟨r0_23, rowScales (View.ld x0 r0_22) (View.ld x1 r0_22)⟩,
    ⟨r0_19, rowScales (View.ld x0 r0_18) (View.ld x1 r0_18)⟩,
    ⟨r0_14, rowScales (View.ld x0 r0_13) (View.ld x1 r0_13)⟩,
    ⟨r0_10, rowScales (View.ld x0 r0_9) (View.ld x1 r0_9)⟩,
    ⟨r0_5, rowScales (View.ld x0 r0_4) (View.ld x1 r0_4)⟩,
    ⟨r0_1, rowScales (View.ld x0 r0_0) (View.ld x1 r0_0)⟩] := rfl

/-- What the body stores of the column codes, one piece for each tile, each a function of the tile's two loads. -/
theorem out5_eq (x0 x1 : Vec F S256x1024 .bf16) : out0_5 x0 x1 = View.canon [⟨r0_70, colCodes (View.ld x0 r0_67) (View.ld x1 r0_67)⟩,
    ⟨r0_66, colCodes (View.ld x0 r0_63) (View.ld x1 r0_63)⟩,
    ⟨r0_61, colCodes (View.ld x0 r0_58) (View.ld x1 r0_58)⟩,
    ⟨r0_57, colCodes (View.ld x0 r0_54) (View.ld x1 r0_54)⟩,
    ⟨r0_52, colCodes (View.ld x0 r0_49) (View.ld x1 r0_49)⟩,
    ⟨r0_48, colCodes (View.ld x0 r0_45) (View.ld x1 r0_45)⟩,
    ⟨r0_43, colCodes (View.ld x0 r0_40) (View.ld x1 r0_40)⟩,
    ⟨r0_39, colCodes (View.ld x0 r0_36) (View.ld x1 r0_36)⟩,
    ⟨r0_34, colCodes (View.ld x0 r0_31) (View.ld x1 r0_31)⟩,
    ⟨r0_30, colCodes (View.ld x0 r0_27) (View.ld x1 r0_27)⟩,
    ⟨r0_25, colCodes (View.ld x0 r0_22) (View.ld x1 r0_22)⟩,
    ⟨r0_21, colCodes (View.ld x0 r0_18) (View.ld x1 r0_18)⟩,
    ⟨r0_16, colCodes (View.ld x0 r0_13) (View.ld x1 r0_13)⟩,
    ⟨r0_12, colCodes (View.ld x0 r0_9) (View.ld x1 r0_9)⟩,
    ⟨r0_7, colCodes (View.ld x0 r0_4) (View.ld x1 r0_4)⟩,
    ⟨r0_3, colCodes (View.ld x0 r0_0) (View.ld x1 r0_0)⟩] := rfl

/-- What the body stores of the column scales, one piece for each tile, each a function of the tile's two loads. -/
theorem out6_eq (x0 x1 : Vec F S256x1024 .bf16) : out0_6 x0 x1 = View.canon [⟨r0_69, colScales (View.ld x0 r0_67) (View.ld x1 r0_67)⟩,
    ⟨r0_65, colScales (View.ld x0 r0_63) (View.ld x1 r0_63)⟩,
    ⟨r0_60, colScales (View.ld x0 r0_58) (View.ld x1 r0_58)⟩,
    ⟨r0_56, colScales (View.ld x0 r0_54) (View.ld x1 r0_54)⟩,
    ⟨r0_51, colScales (View.ld x0 r0_49) (View.ld x1 r0_49)⟩,
    ⟨r0_47, colScales (View.ld x0 r0_45) (View.ld x1 r0_45)⟩,
    ⟨r0_42, colScales (View.ld x0 r0_40) (View.ld x1 r0_40)⟩,
    ⟨r0_38, colScales (View.ld x0 r0_36) (View.ld x1 r0_36)⟩,
    ⟨r0_33, colScales (View.ld x0 r0_31) (View.ld x1 r0_31)⟩,
    ⟨r0_29, colScales (View.ld x0 r0_27) (View.ld x1 r0_27)⟩,
    ⟨r0_24, colScales (View.ld x0 r0_22) (View.ld x1 r0_22)⟩,
    ⟨r0_20, colScales (View.ld x0 r0_18) (View.ld x1 r0_18)⟩,
    ⟨r0_15, colScales (View.ld x0 r0_13) (View.ld x1 r0_13)⟩,
    ⟨r0_11, colScales (View.ld x0 r0_9) (View.ld x1 r0_9)⟩,
    ⟨r0_6, colScales (View.ld x0 r0_4) (View.ld x1 r0_4)⟩,
    ⟨r0_2, colScales (View.ld x0 r0_0) (View.ld x1 r0_0)⟩] := rfl
end Cert.KernelIdeal.Tile

end
-- ==== Proof.Gelu.lean ====
/- The product with the gradient of gelu: the kernel's factored form and the reference's plain form are one function on
   the extended reals, and its magnitude is at most twice the gradient's. -/
module

public import proofs.«01_k».proof.Proof.Ref
public import proofs.«01_k».proof.Proof.Tile
public import Mathlib.Analysis.SpecialFunctions.Trigonometric.DerivHyp

@[expose] public section

set_option maxRecDepth 16384

noncomputable section

namespace Cert.Gelu

open Idealize.ShloMosaic

/-- The f32 number of the square root of two over pi. -/
def K : ℝ := 6693141 / 8388608

/-- The f32 number of the cubic coefficient. -/
def C : ℝ := 12003091 / 268435456

/-- The word of K. -/
theorem ofBits_K : Ideal.ofBits .f32 0x3F4C422A#32 = ((K : ℝ) : EReal) := by
  simp [Ideal.ofBits, Ideal.ieee, -EReal.coe_mul, K]
  norm_num

/-- The word of C. -/
theorem ofBits_C : Ideal.ofBits .f32 0x3D372713#32 = ((C : ℝ) : EReal) := by
  simp [Ideal.ofBits, Ideal.ieee, -EReal.coe_mul, C]
  norm_num

/-- The word of K/2. -/
theorem ofBits_halfK : Ideal.ofBits .f32 0x3ECC422A#32 = ((K / 2 : ℝ) : EReal) := by
  simp [Ideal.ofBits, Ideal.ieee, -EReal.coe_mul, K]
  norm_num

/-- The word of one. -/
theorem ofBits_one : Ideal.ofBits .f32 0x3F800000#32 = ((1 : ℝ) : EReal) := by
  simp [Ideal.ofBits, Ideal.ieee, -EReal.coe_mul]
  norm_num

/-- The word of a half. -/
theorem ofBits_half : Ideal.ofBits .f32 0x3F000000#32 = ((1 / 2 : ℝ) : EReal) := by
  simp [Ideal.ofBits, Ideal.ieee, -EReal.coe_mul]
  norm_num

/-- The word of three. -/
theorem ofBits_three : Ideal.ofBits .f32 0x40400000#32 = ((3 : ℝ) : EReal) := by
  simp [Ideal.ofBits, Ideal.ieee, -EReal.coe_mul]
  norm_num

/-- The constant `k_c` is K·C. -/
theorem named_KC : Named.named (F := Ideal) Cert.KernelIdeal.κ "k_c" (φ := .f32) 0x3D122279#32 = ((K * C : ℝ) : EReal) := by
  have : Named.named (F := Ideal) Cert.KernelIdeal.κ "k_c" (φ := .f32) 0x3D122279#32 =
      ((80338380498831 / 2251799813685248 : ℝ) : EReal) := rfl
  rw [this]
  norm_num [K, C]

/-- The constant `k_c_3half` is 3/2·K·C. -/
theorem named_KC3 : Named.named (F := Ideal) Cert.KernelIdeal.κ "k_c_3half" (φ := .f32) 0x3D5B33B6#32 =
    ((3 / 2 * (K * C) : ℝ) : EReal) := by
  have : Named.named (F := Ideal) Cert.KernelIdeal.κ "k_c_3half" (φ := .f32) 0x3D5B33B6#32 =
      ((241015141496493 / 4503599627370496 : ℝ) : EReal) := rfl
  rw [this]
  norm_num [K, C]

/-- The kernel's form. -/
def ker (g x : EReal) : EReal :=
  g * ((((1 : ℝ) : EReal) + Ideal.tanh (x * (((K : ℝ) : EReal) + ((K * C : ℝ) : EReal) * (x * x)))) *
    (((1 / 2 : ℝ) : EReal) + ((((1 : ℝ) : EReal) - Ideal.tanh (x * (((K : ℝ) : EReal) + ((K * C : ℝ) : EReal) * (x * x)))) * x) *
      (((K / 2 : ℝ) : EReal) + ((3 / 2 * (K * C) : ℝ) : EReal) * (x * x))))

/-- The reference's `tanh`. -/
def th (x : EReal) : EReal := Ideal.tanh (((K : ℝ) : EReal) * (x + ((C : ℝ) : EReal) * x * x * x))

/-- The reference's form. -/
def ref (g x : EReal) : EReal :=
  g * (((1 / 2 : ℝ) : EReal) * (((1 : ℝ) : EReal) + th x) +
    ((1 / 2 : ℝ) : EReal) * x * (((1 : ℝ) : EReal) - th x * th x) * ((K : ℝ) : EReal) *
      (((1 : ℝ) : EReal) + ((3 : ℝ) : EReal) * (((C : ℝ) : EReal) * x * x)))

/-- K is positive. -/
theorem K_pos : 0 < K := by norm_num [K]

/-- C is positive. -/
theorem C_pos : 0 < C := by norm_num [C]

/-- The argument of the reference's `tanh` on a real number. -/
def arg (r : ℝ) : ℝ := K * (r + C * r * r * r)

/-- The reference's factor on a real number. -/
def fac (r : ℝ) : ℝ := 1 / 2 * (1 + Real.tanh (arg r)) + 1 / 2 * r * (1 - Real.tanh (arg r) * Real.tanh (arg r)) * K * (1 + 3 * (C * r * r))

/-- At a real number the result is the gradient times a real factor. -/
theorem ref_coe (g : EReal) (r : ℝ) : ref g (r : EReal) = g * ((fac r : ℝ) : EReal) := by
  have ht : th (r : EReal) = ((Real.tanh (arg r) : ℝ) : EReal) := by
    simp only [th, ← EReal.coe_mul, ← EReal.coe_add, Ideal.tanh_coe, arg]
  simp only [ref, ht, ← EReal.coe_mul, ← EReal.coe_add, ← EReal.coe_sub, fac]

/-- At the greatest element the result is the gradient. -/
theorem ref_top (g : EReal) : ref g ⊤ = g := by
  have h1 : th ⊤ = ((1 : ℝ) : EReal) := by
    rw [th, EReal.coe_mul_top_of_pos C_pos, EReal.top_mul_top, EReal.top_mul_top, EReal.top_add_top,
      EReal.coe_mul_top_of_pos K_pos, Ideal.tanh_top, EReal.coe_one]
  have h2 : ((1 : ℝ) : EReal) - ((1 : ℝ) : EReal) * ((1 : ℝ) : EReal) = 0 := by
    rw [← EReal.coe_mul, ← EReal.coe_sub]
    norm_num
  have h3 : ((1 / 2 : ℝ) : EReal) * (((1 : ℝ) : EReal) + ((1 : ℝ) : EReal)) = 1 := by
    rw [← EReal.coe_add, ← EReal.coe_mul]
    norm_num
  rw [ref, h1, h2, h3, mul_zero, zero_mul, zero_mul, add_zero, mul_one]

/-- At the least element the result is zero. -/
theorem ref_bot (g : EReal) : ref g ⊥ = 0 := by
  have h1 : th ⊥ = ((-1 : ℝ) : EReal) := by
    rw [th, EReal.coe_mul_bot_of_pos C_pos, EReal.bot_mul_bot, EReal.top_mul_bot, EReal.bot_add,
      EReal.coe_mul_bot_of_pos K_pos, Ideal.tanh_bot]
    rfl
  have h2 : ((1 : ℝ) : EReal) - ((-1 : ℝ) : EReal) * ((-1 : ℝ) : EReal) = 0 := by
    rw [← EReal.coe_mul, ← EReal.coe_sub]
    norm_num
  have h3 : ((1 / 2 : ℝ) : EReal) * (((1 : ℝ) : EReal) + ((-1 : ℝ) : EReal)) = 0 := by
    rw [← EReal.coe_add, ← EReal.coe_mul]
    norm_num
  rw [ref, h1, h2, h3, mul_zero, zero_mul, zero_mul, add_zero, mul_zero]

/-- The two forms are one function. -/
theorem ker_eq_ref (g x : EReal) : ker g x = ref g x := by
  have hKC : 0 < K * C := mul_pos K_pos C_pos
  induction x with
  | bot =>
    rw [ref_bot, ker, EReal.bot_mul_bot, EReal.coe_mul_top_of_pos hKC, EReal.coe_add_top, EReal.bot_mul_top, Ideal.tanh_bot]
    have h3 : ((1 : ℝ) : EReal) + (-1) = 0 := by
      rw [show (-1 : EReal) = ((-1 : ℝ) : EReal) from rfl, ← EReal.coe_add]
      norm_num
    rw [h3, zero_mul, mul_zero]
  | top =>
    rw [ref_top, ker, EReal.top_mul_top, EReal.coe_mul_top_of_pos hKC, EReal.coe_add_top, EReal.top_mul_top, Ideal.tanh_top]
    have h3 : ((1 : ℝ) : EReal) - 1 = 0 := by
      rw [← EReal.coe_one, ← EReal.coe_sub]
      norm_num
    have h4 : (((1 : ℝ) : EReal) + 1) * ((1 / 2 : ℝ) : EReal) = 1 := by
      rw [← EReal.coe_one, ← EReal.coe_add, ← EReal.coe_mul]
      norm_num
    rw [h3, zero_mul, zero_mul, add_zero, h4, mul_one]
  | coe r =>
    have ha : r * (K + K * C * (r * r)) = arg r := by
      rw [arg]
      ring
    rw [ref_coe, ker]
    simp only [← EReal.coe_mul, ← EReal.coe_add, ha, Ideal.tanh_coe, ← EReal.coe_sub, fac]
    congr 2
    ring

/-- The factor's magnitude is at most two. -/
theorem fac_le (r : ℝ) : |fac r| ≤ 2 := by
  have hc := Real.cosh_pos (arg r)
  have h1 : 1 - Real.tanh (arg r) * Real.tanh (arg r) = 1 / (Real.cosh (arg r)) ^ 2 := by
    rw [Real.tanh_eq_sinh_div_cosh]
    field_simp
    rw [Real.cosh_sq]
    ring
  have hs : |arg r| ≤ |Real.sinh (arg r)| := by
    rw [Real.abs_sinh]
    exact Real.self_le_sinh_iff.mpr (abs_nonneg _)
  have hsq : 1 + (arg r) ^ 2 ≤ (Real.cosh (arg r)) ^ 2 := by
    rw [Real.cosh_sq]
    nlinarith [sq_abs (arg r), sq_abs (Real.sinh (arg r)), abs_nonneg (arg r)]
  have ht : |Real.tanh (arg r)| ≤ 1 := (Real.abs_tanh_lt_one _).le
  have hy : |r * K * (1 + 3 * (C * r * r))| ≤ 3 * |arg r| := by
    have e1 : r * K * (1 + 3 * (C * r * r)) = (r * K) * (1 + 3 * (C * (r * r))) := by ring
    have e2 : arg r = (r * K) * (1 + C * (r * r)) := by
      rw [arg]
      ring
    have hp : 0 ≤ C * (r * r) := mul_nonneg C_pos.le (mul_self_nonneg r)
    rw [e1, e2, abs_mul, abs_mul (r * K) (1 + C * (r * r)), abs_of_nonneg (show 0 ≤ 1 + 3 * (C * (r * r)) by linarith),
      abs_of_nonneg (show 0 ≤ 1 + C * (r * r) by linarith)]
    nlinarith [mul_nonneg (abs_nonneg (r * K)) hp, abs_nonneg (r * K)]
  have h2 : |1 / (Real.cosh (arg r)) ^ 2 * (r * K * (1 + 3 * (C * r * r)))| ≤ 3 / 2 := by
    rw [abs_mul, abs_of_pos (by positivity), one_div, inv_mul_le_iff₀ (by positivity)]
    nlinarith [sq_abs (arg r), sq_nonneg (|arg r| - 1), abs_nonneg (arg r)]
  have e : fac r = 1 / 2 + 1 / 2 * Real.tanh (arg r) + 1 / 2 * (1 / (Real.cosh (arg r)) ^ 2 * (r * K * (1 + 3 * (C * r * r)))) := by
    rw [← h1, fac]
    ring
  rw [e]
  rw [abs_le] at ht h2 ⊢
  constructor <;> linarith [ht.1, ht.2, h2.1, h2.2]

/-- The result is real, and at most twice the gradient, for a real gradient. -/
theorem ref_bound (g : ℝ) (x : EReal) : ∃ d : ℝ, ref (g : EReal) x = (d : EReal) ∧ |d| ≤ 2 * |g| := by
  induction x with
  | bot => exact ⟨0, by rw [ref_bot, EReal.coe_zero], by simp⟩
  | top => exact ⟨g, ref_top _, by linarith [abs_nonneg g]⟩
  | coe r =>
    refine ⟨g * fac r, by rw [ref_coe, EReal.coe_mul], ?_⟩
    rw [abs_mul, mul_comm]
    exact mul_le_mul_of_nonneg_right (fac_le r) (abs_nonneg g)

/-- The kernel's tile, index by index. -/
theorem tile_apply (g x : FVec Ideal Cert.KernelIdeal.S128x128 .bf16) (i : Cert.KernelIdeal.S128x128.Idx) :
    Cert.KernelIdeal.Tile.dg (F := Ideal) g x i = ref (g i) (x i) := by
  rw [← ker_eq_ref, ker, ← named_KC, ← named_KC3, ← ofBits_K, ← ofBits_halfK, ← ofBits_one, ← ofBits_half]
  rfl

/-- The reference's product, index by index. -/
theorem ref_apply (g x : FVec Ideal Cert.ReferenceIdeal.S256x26624 .bf16) (i : Cert.ReferenceIdeal.S256x26624.Idx) :
    Cert.ReferenceIdeal.Ref.dg (F := Ideal) g x i = ref (g i) (x i) := by
  rw [ref, th, ← ofBits_K, ← ofBits_C, ← ofBits_one, ← ofBits_half, ← ofBits_three]
  rfl

end Cert.Gelu

end
-- ==== Proof.Exponent.lean ====
/- The scale of a group and its inverse: the kernel's exponent field by bisection and the reference's logarithm give one
   power of two, on every real number from zero to below 2^126. -/
module

public import proofs.«01_k».proof.Proof.Ref
public import proofs.«01_k».proof.Proof.Tile

@[expose] public section

set_option maxRecDepth 16384

noncomputable section

namespace Cert.Exponent

open Idealize.ShloMosaic

/-- The power of two of an exponent field; zero at the field zero. -/
def pw (n : ℕ) : ℝ := if n = 0 then 0 else (2 : ℝ) ^ ((n : ℤ) - 127)

/-- The power of two of a nonzero field is positive. -/
theorem pw_pos {n : ℕ} (h : n ≠ 0) : 0 < pw n := by
  simp only [pw, if_neg h]
  positivity

/-- A greater field has no smaller power of two. -/
theorem pw_mono {m n : ℕ} (h : m ≤ n) : pw m ≤ pw n := by
  by_cases hm : m = 0
  · subst hm
    by_cases hn : n = 0
    · subst hn
      exact le_refl _
    · exact le_trans (by simp [pw]) (pw_pos hn).le
  · have hn : n ≠ 0 := by omega
    simp only [pw, if_neg hm, if_neg hn]
    exact zpow_le_zpow_right₀ (by norm_num) (by omega)

/-- The exponent field `n`, in place in the word. -/
def word (n : ℕ) : BitVec 32 := BitVec.ofNat 32 (n * 8388608)

/-- The word of a sum of fields is the sum of their words. -/
theorem word_add (m n : ℕ) : word m + word n = word (m + n) := by
  simp only [word, Nat.add_mul, BitVec.ofNat_add]

/-- A word as a natural number. -/
theorem word_toNat {n : ℕ} (h : n < 512) : (word n).toNat = n * 8388608 := by
  simp only [word, BitVec.toNat_ofNat]
  omega

/-- The word of a field below the greatest one denotes its power of two. -/
theorem ofBits_word {n : ℕ} (h : n < 255) : Ideal.ofBits .f32 (word n) = ((pw n : ℝ) : EReal) := by
  have hw := word_toNat (show n < 512 by omega)
  have e1 : (BitVec.extractLsb' 23 8 (word n)).toNat = n := by
    rw [BitVec.extractLsb'_toNat, hw, Nat.shiftRight_eq_div_pow]
    omega
  have e2 : (BitVec.extractLsb' 0 23 (word n)).toNat = 0 := by
    rw [BitVec.extractLsb'_toNat, hw, Nat.shiftRight_eq_div_pow]
    omega
  have e3 : (BitVec.extractLsb' (8 + 23) 1 (word n) == 1#1) = false := by
    rw [beq_eq_false_iff_ne]
    intro hc
    have := congrArg BitVec.toNat hc
    rw [BitVec.extractLsb'_toNat, hw, Nat.shiftRight_eq_div_pow] at this
    have h1 : (1#1).toNat = 1 := rfl
    rw [h1] at this
    omega
  simp only [Ideal.ofBits, Ideal.ieee]
  rw [e1, e2, e3]
  by_cases h0 : n = 0
  · subst h0
    simp [pw]
  · rw [if_neg (by omega), if_neg h0]
    simp only [pw, if_neg h0]
    norm_num [-EReal.coe_mul]
    rw [show (8388608 : ℝ) = (2 : ℝ) ^ (23 : ℤ) by norm_num, ← zpow_add₀ (by norm_num)]
    congr 1
    ring

/-- The word of the greatest field denotes the infinity. -/
theorem ofBits_top : Ideal.ofBits .f32 (word 255) = ⊤ := by
  have : word 255 = 0x7F800000#32 := by decide
  rw [this]
  simp [Ideal.ofBits, Ideal.ieee]

/-- One step of the bisection on one number. -/
def stepS (b : BitVec 32) (v : EReal) (e : BitVec 32) : BitVec 32 :=
  Scalar.select (Ideal.cmp .olt v (Ideal.ofBits .f32 (e + b))) e (e + b)

/-- Below 2^126 the candidate word is above the number just if its power of two is. -/
theorem lt_word {v : ℝ} (hv : v < pw 253) {n : ℕ} (h : n < 256) :
    (v : EReal) < Ideal.ofBits .f32 (word n) ↔ v < pw n := by
  by_cases h255 : n = 255
  · subst h255
    rw [ofBits_top]
    exact ⟨fun _ => lt_of_lt_of_le hv (pw_mono (by omega)), fun _ => EReal.coe_lt_top v⟩
  · rw [ofBits_word (by omega), EReal.coe_lt_coe_iff]

/-- One step keeps the number between two powers of two, and halves their distance. -/
theorem stepS_word {v : ℝ} (hv : v < pw 253) {n m : ℕ} (h : n + m < 256) (h0 : pw n ≤ v) (h1 : v < pw (n + (m + m))) :
    ∃ k, stepS (word m) v (word n) = word k ∧ pw k ≤ v ∧ v < pw (k + m) ∧ (k = n ∨ k = n + m) := by
  by_cases hc : v < pw (n + m)
  · refine ⟨n, ?_, h0, hc, .inl rfl⟩
    simp [stepS, word_add, Ideal.cmp, (lt_word hv h).mpr hc, Scalar.select]
  · refine ⟨n + m, ?_, not_lt.mp hc, by rwa [Nat.add_assoc], .inr rfl⟩
    have : ¬ (v : EReal) < Ideal.ofBits .f32 (word (n + m)) := fun h' => hc ((lt_word hv h).mp h')
    simp [stepS, word_add, Ideal.cmp, this, Scalar.select]

/-- The exponent field of one number, by eight steps. -/
def fieldS (v : EReal) : BitVec 32 :=
  stepS 8388608#32 v (stepS 16777216#32 v (stepS 33554432#32 v (stepS 67108864#32 v (stepS 134217728#32 v
    (stepS 268435456#32 v (stepS 536870912#32 v (stepS 1073741824#32 v 0#32)))))))

/-- The bisection finds the field of the greatest power of two not above the number. -/
theorem fieldS_word {v : ℝ} (h0 : 0 ≤ v) (hv : v < pw 253) :
    ∃ n, n < 253 ∧ fieldS v = word n ∧ pw n ≤ v ∧ v < pw (n + 1) := by
  obtain ⟨a, ea, la, ua, ca⟩ := stepS_word hv (n := 0) (m := 128) (by omega) (by simpa [pw] using h0)
    (lt_of_lt_of_le hv (pw_mono (by omega)))
  obtain ⟨b, eb, lb, ub, cb⟩ := stepS_word hv (n := a) (m := 64) (by omega) la ua
  obtain ⟨c, ec, lc, uc, cc⟩ := stepS_word hv (n := b) (m := 32) (by omega) lb ub
  obtain ⟨d, ed, ld, ud, cd⟩ := stepS_word hv (n := c) (m := 16) (by omega) lc uc
  obtain ⟨e, ee, le, ue, ce⟩ := stepS_word hv (n := d) (m := 8) (by omega) ld ud
  obtain ⟨f, ef, lf, uf, cf⟩ := stepS_word hv (n := e) (m := 4) (by omega) le ue
  obtain ⟨g, eg, lg, ug, cg⟩ := stepS_word hv (n := f) (m := 2) (by omega) lf uf
  obtain ⟨n, en, ln, un, cn⟩ := stepS_word hv (n := g) (m := 1) (by omega) lg ug
  refine ⟨n, ?_, ?_, ln, un⟩
  · by_contra hn
    exact absurd (lt_of_le_of_lt ln hv) (not_lt.mpr (pw_mono (by omega)))
  · have w0 : (0#32 : BitVec 32) = word 0 := by decide
    have w1 : (8388608#32 : BitVec 32) = word 1 := by decide
    have w2 : (16777216#32 : BitVec 32) = word 2 := by decide
    have w4 : (33554432#32 : BitVec 32) = word 4 := by decide
    have w8 : (67108864#32 : BitVec 32) = word 8 := by decide
    have w16 : (134217728#32 : BitVec 32) = word 16 := by decide
    have w32 : (268435456#32 : BitVec 32) = word 32 := by decide
    have w64 : (536870912#32 : BitVec 32) = word 64 := by decide
    have w128 : (1073741824#32 : BitVec 32) = word 128 := by decide
    rw [fieldS, w0, w1, w2, w4, w8, w16, w32, w64, w128, ea, eb, ec, ed, ee, ef, eg, en]

/-- Whether a field is that of a normal number. -/
def okS (e : BitVec 32) : BitVec 1 :=
  IntOp.andi (IntOp.cmpi .ne e 0#32) (IntOp.cmpi .ne e 2139095040#32)

/-- The kernel's scale of one number. -/
def scaleS (v : EReal) : EReal :=
  Scalar.select (okS (fieldS v)) (Ideal.ofBits .f32 (fieldS v + 8388608#32)) (Ideal.ofBits .f32 0x3F800000#32)

/-- The kernel's inverse scale of one number. -/
def invS (v : EReal) : EReal :=
  Scalar.select (okS (fieldS v)) (Ideal.ofBits .f32 (2122317824#32 - fieldS v)) (Ideal.ofBits .f32 0x3F800000#32)

/-- Whether one number is a normal one, in the reference. -/
def normalS (v : EReal) : BitVec 1 := Ideal.cmp .oge v (Ideal.ofBits .f32 0x00800000#32)

/-- The reference's exponent of one number. -/
def expoS (v : EReal) : EReal :=
  Scalar.select (normalS v)
    (Ideal.liftRound Int.floor (Ideal.div (Ideal.log (Scalar.select (normalS v) v (Ideal.ofBits .f32 0x3F800000#32)))
      (Ideal.log (Ideal.ofBits .f32 0x40000000#32))) + Ideal.ofBits .f32 0x3F800000#32) (Ideal.ofBits .f32 0x00000000#32)

/-- A step of the bisection, index by index. -/
theorem step_apply {s : Shape} (b : BitVec 32) (v : FVec Ideal s .f32) (e : IVec s 32) (i : s.Idx) :
    Cert.KernelIdeal.Tile.step (F := Ideal) b v e i = stepS b (v i) (e i) := rfl

/-- The exponent field found by bisection, index by index. -/
theorem field_apply {s : Shape} (v : FVec Ideal s .f32) (i : s.Idx) :
    Cert.KernelIdeal.Tile.field (F := Ideal) v i = fieldS (v i) := by
  have hb : broadcast s 0#32 i = 0#32 := rfl
  rw [Cert.KernelIdeal.Tile.field, step_apply, step_apply, step_apply, step_apply, step_apply, step_apply, step_apply,
    step_apply, hb, fieldS]

/-- The kernel's scale, index by index. -/
theorem scale_apply {s : Shape} (v : FVec Ideal s .f32) (i : s.Idx) :
    Cert.KernelIdeal.Tile.scale (F := Ideal) v i = scaleS (v i) := by
  rw [scaleS, ← field_apply]
  rfl

/-- The kernel's inverse scale, index by index. -/
theorem inv_apply {s : Shape} (v : FVec Ideal s .f32) (i : s.Idx) :
    Cert.KernelIdeal.Tile.inv (F := Ideal) v i = invS (v i) := by
  rw [invS, ← field_apply]
  rfl

/-- The reference's scale, index by index. -/
theorem refScale_apply {s : Shape} (h : Cert.ReferenceIdeal.S_.BroadcastsInDim s (![] : Fin 0 → Fin s.rank))
    (v : FVec Ideal s .f32) (i : s.Idx) :
    Cert.ReferenceIdeal.Ref.scale (F := Ideal) h v i = Ideal.pow (Ideal.ofBits .f32 0x40000000#32) (expoS (v i)) := rfl

/-- The reference's inverse scale, index by index. -/
theorem refInv_apply {s : Shape} (h : Cert.ReferenceIdeal.S_.BroadcastsInDim s (![] : Fin 0 → Fin s.rank))
    (v : FVec Ideal s .f32) (i : s.Idx) :
    Cert.ReferenceIdeal.Ref.inv (F := Ideal) h v i = Ideal.pow (Ideal.ofBits .f32 0x40000000#32) (-expoS (v i)) := rfl

/-- The word of one. -/
theorem ofBits_one : Ideal.ofBits .f32 0x3F800000#32 = ((1 : ℝ) : EReal) := by
  simp [Ideal.ofBits, Ideal.ieee, -EReal.coe_mul]
  norm_num

/-- The word of two. -/
theorem ofBits_two : Ideal.ofBits .f32 0x40000000#32 = ((2 : ℝ) : EReal) := by
  simp [Ideal.ofBits, Ideal.ieee, -EReal.coe_mul]
  norm_num

/-- The word of zero. -/
theorem ofBits_zero : Ideal.ofBits .f32 0x00000000#32 = ((0 : ℝ) : EReal) := by
  simp [Ideal.ofBits, Ideal.ieee]

/-- Two to an integral power. -/
theorem pow_two (k : ℤ) : Ideal.pow ((2 : ℝ) : EReal) (((k : ℝ)) : EReal) = (((2 : ℝ) ^ k : ℝ) : EReal) := by
  rw [Ideal.pow_coe_coe]
  exact congrArg _ (Real.rpow_intCast 2 k)

/-- The floor of the logarithm to the base two, between two powers of two. -/
theorem floor_log {v : ℝ} {k : ℤ} (h0 : (2 : ℝ) ^ k ≤ v) (h1 : v < (2 : ℝ) ^ (k + 1)) :
    ⌊Real.log v * (1 / Real.log 2)⌋ = k := by
  have h2 : 0 < Real.log 2 := Real.log_pos (by norm_num)
  have hp : (0 : ℝ) < (2 : ℝ) ^ k := by positivity
  rw [Int.floor_eq_iff, mul_one_div, le_div_iff₀ h2, div_lt_iff₀ h2]
  constructor
  · rw [← Real.log_zpow]
    exact Real.log_le_log hp h0
  · have := Real.log_lt_log (lt_of_lt_of_le hp h0) h1
    rw [Real.log_zpow] at this
    push_cast at this
    exact this

/-- The reference's exponent, from the field. -/
theorem expoS_eq {v : ℝ} {n : ℕ} (l : pw n ≤ v) (u : v < pw (n + 1)) :
    expoS (v : EReal) = (((if n = 0 then 0 else (n : ℤ) - 126 : ℤ) : ℝ) : EReal) := by
  have hw : Ideal.ofBits .f32 0x00800000#32 = ((pw 1 : ℝ) : EReal) := by
    rw [← ofBits_word (by omega)]
    rfl
  by_cases h0 : n = 0
  · subst h0
    have : ¬ ((pw 1 : ℝ) : EReal) ≤ (v : EReal) := by
      rw [EReal.coe_le_coe_iff]
      exact not_le.mpr u
    simp [expoS, normalS, Ideal.cmp, hw, this, Scalar.select, ofBits_zero]
  · have hle : ((pw 1 : ℝ) : EReal) ≤ (v : EReal) := by
      rw [EReal.coe_le_coe_iff]
      exact le_trans (pw_mono (by omega)) l
    have hvp : 0 < v := lt_of_lt_of_le (pw_pos h0) l
    have hl2 : Real.log 2 ≠ 0 := (Real.log_pos (by norm_num)).ne'
    have hn : normalS (v : EReal) = 1#1 := by simp [normalS, Ideal.cmp, hw, hle]
    simp only [pw, if_neg h0] at l
    simp only [pw, if_neg (Nat.succ_ne_zero n)] at u
    have hf := floor_log l (k := (n : ℤ) - 127) (by convert u using 2; push_cast; ring)
    have hs : ∀ a b : EReal, Scalar.select 1#1 a b = a := fun a b => rfl
    rw [expoS, hn, hs, hs, ofBits_two, ofBits_one, if_neg h0, Ideal.log_coe, Ideal.log_coe, if_neg (not_le.mpr hvp),
      if_neg (by norm_num : ¬ (2 : ℝ) ≤ 0), Ideal.div_coe hl2, ← EReal.coe_mul, Ideal.liftRound_coe, hf, ← EReal.coe_add]
    congr 1
    push_cast
    ring

/-- The kernel's scale and its inverse are the reference's. -/
theorem scale_inv {v : ℝ} (h0 : 0 ≤ v) (hv : v < pw 253) :
    scaleS (v : EReal) = Ideal.pow (Ideal.ofBits .f32 0x40000000#32) (expoS (v : EReal)) ∧
      invS (v : EReal) = Ideal.pow (Ideal.ofBits .f32 0x40000000#32) (-expoS (v : EReal)) := by
  obtain ⟨n, hn, hf, l, u⟩ := fieldS_word h0 hv
  rw [expoS_eq l u, ofBits_two, ← EReal.coe_neg, ← Int.cast_neg, pow_two, pow_two, scaleS, invS, hf]
  by_cases hz : n = 0
  · subst hz
    have : okS (word 0) = 0#1 := by decide
    rw [this]
    simp [Scalar.select, ofBits_one]
  · have w1 : (8388608#32 : BitVec 32) = word 1 := by decide
    have wk : (2122317824#32 : BitVec 32) = word (253 - n) + word n := by
      rw [word_add, show 253 - n + n = 253 by omega]
      decide
    have hsub : (2122317824#32 : BitVec 32) - word n = word (253 - n) := by rw [wk, BitVec.add_sub_cancel]
    have hne : ∀ m, m < 256 → m ≠ n → word n ≠ word m := fun m hm hmn h => by
      have := congrArg BitVec.toNat h
      rw [word_toNat (by omega), word_toNat (by omega)] at this
      omega
    have n0 : word n ≠ 0#32 := hne 0 (by omega) (by omega)
    have n255 : word n ≠ 2139095040#32 := by
      have := hne 255 (by omega) (by omega)
      exact this
    have hok : okS (word n) = 1#1 := by
      simp only [okS, IntOp.andi, IntOp.cmpi, bne_iff_ne.mpr n0, bne_iff_ne.mpr n255]
      decide
    rw [hok, hsub, w1, word_add, ofBits_word (by omega), ofBits_word (by omega)]
    simp only [Scalar.select, if_true, pw, if_neg (Nat.succ_ne_zero n), if_neg hz, if_neg (show 253 - n ≠ 0 by omega)]
    refine ⟨congrArg (fun k : ℤ => (((2 : ℝ) ^ k : ℝ) : EReal)) ?_, congrArg (fun k : ℤ => (((2 : ℝ) ^ k : ℝ) : EReal)) ?_⟩ <;> omega

end Cert.Exponent

end
-- ==== Proof.TileVal.lean ====
/- The values of a tile and of a block of the kernel, index by index, from the product of the two inputs as a function
   of row and column. -/
module

public import proofs.«01_k».proof.Proof.Gelu
public import proofs.«01_k».proof.Proof.Exponent
public import Idealize.ShloMosaic.Lib.Pipeline.ValueKit

@[expose] public section

set_option maxRecDepth 16384

noncomputable section

namespace Cert.Spec

open Idealize.ShloMosaic Cert.Exponent

/-- The greatest magnitude of 128 numbers, over the greatest code. -/
def mxv (f : Fin 128 → EReal) : EReal :=
  Finset.fold max (Ideal.ofBits .f32 0xFF800000#32) (fun k => FloatOps.absf (F := Ideal) (φ := .f32) (f k)) Finset.univ *
    Ideal.ofBits .f32 0x37924925#32

/-- A number clipped to the range of the codes. -/
def clipS (d : EReal) : EReal :=
  min (Ideal.ofBits .f32 0x47600000#32) (max (Ideal.ofBits .f32 0xC7600000#32) d)

/-- The maximum of the 128 columns from `c` on, in row `r`. -/
def rV (D : ℕ → ℕ → EReal) (r c : ℕ) : EReal := mxv fun k => D r (c + k)

/-- The maximum of the 128 rows from `r` on, in column `c`. -/
def cV (D : ℕ → ℕ → EReal) (r c : ℕ) : EReal := mxv fun k => D (r + k) c

/-- A row code: row `r`, column `c`, the group's first column `b`. -/
def rCode (D : ℕ → ℕ → EReal) (r c b : ℕ) : EReal := clipS (D r c * invS (rV D r b))

/-- A column code: row `r`, column `c`, the group's first row `b`. -/
def cCode (D : ℕ → ℕ → EReal) (r c b : ℕ) : EReal := clipS (D r c * invS (cV D b c))

/-- The sum of the 128 rows from `r` on, in column `c`. -/
def cSum (D : ℕ → ℕ → EReal) (r c : ℕ) : EReal := ∑ k : Fin 128, D (r + k) c

end Cert.Spec

namespace Cert.KernelIdeal.TileVal

open Cert.KernelIdeal Cert.KernelIdeal.Gen Cert.KernelIdeal.Tile Cert.Spec Cert.Exponent
open Idealize.ShloMosaic Idealize.ShloMosaic.TcCoe Idealize.SL.Sem

section

variable {g x g' x' : FVec Ideal S128x128 .bf16} {D : ℕ → ℕ → EReal} {R R' C : ℕ}

/-- The tile's product is `D` from row `R` and column `C` on. -/
abbrev Is (D : ℕ → ℕ → EReal) (R C : ℕ) (g x : FVec Ideal S128x128 .bf16) : Prop :=
  ∀ p q : Fin 128, dg (F := Ideal) g x (ix2 p q) = D (R + p) (C + q)

/-- The tile's product at an index. -/
theorem Is.at (h : Is D R C g x) (i : S128x128.Idx) : dg (F := Ideal) g x i = D (R + (i 0 : ℕ)) (C + (i 1 : ℕ)) := by
  rw [← h (i 0) (i 1)]
  exact congrArg _ (ix2_eta i).symm

/-- The row maxima of a tile. -/
theorem rowV_of (h : Is D R C g x) (i : S128x1.Idx) : rowV (F := Ideal) g x i = rV D (R + (i 0 : ℕ)) C := by
  unfold rowV
  pointwise
  simp only [rV, mxv, ← h (i 0)]

/-- The column maxima of a tile. -/
theorem colV_of (h : Is D R C g x) (i : S1x128.Idx) : colV (F := Ideal) g x i = cV D R (C + (i 1 : ℕ)) := by
  unfold colV
  pointwise
  simp only [cV, mxv, ← fun k => h k (i 1)]

/-- The row codes of a tile. -/
theorem rowCodes_of (h : Is D R C g x) (i : S128x128.Idx) :
    rowCodes (F := Ideal) g x i = rCode D (R + (i 0 : ℕ)) (C + (i 1 : ℕ)) C := by
  unfold rowCodes code
  pointwise
  rw [inv_apply, rowV_of h, h.at]
  rfl

/-- The row scales of a tile. -/
theorem rowScales_of (h : Is D R C g x) (i : S1x128.Idx) :
    rowScales (F := Ideal) g x i = scaleS (rV D (R + (i 1 : ℕ)) C) := by
  unfold rowScales
  pointwise
  rw [scale_apply, rowV_of h]
  rfl

/-- The column codes of a tile. -/
theorem colCodes_of (h : Is D R C g x) (i : S128x128.Idx) :
    colCodes (F := Ideal) g x i = cCode D (R + (i 1 : ℕ)) (C + (i 0 : ℕ)) R := by
  unfold colCodes code
  pointwise
  rw [inv_apply, colV_of h, h.at]
  rfl

/-- The column scales of a tile. -/
theorem colScales_of (h : Is D R C g x) (i : S1x128.Idx) :
    colScales (F := Ideal) g x i = scaleS (cV D R (C + (i 1 : ℕ))) := by
  unfold colScales
  rw [scale_apply, colV_of h]

/-- The column sums of two tiles. -/
theorem colSums_of (h : Is D R C g x) (h' : Is D R' C g' x') (i : S1x128.Idx) :
    colSums (F := Ideal) g x g' x' i = cSum D R (C + (i 1 : ℕ)) + cSum D R' (C + (i 1 : ℕ)) := by
  unfold colSums colSum
  pointwise
  simp only [cSum, ← fun k => h k (i 1), ← fun k => h' k (i 1)]

end

section

variable {x0 x1 : FVec Ideal S256x1024 .bf16} {D : ℕ → ℕ → EReal} {C : ℕ}

/-- The block's product is `D` from column `C` on. -/
abbrev Blk (D : ℕ → ℕ → EReal) (C : ℕ) (x0 x1 : FVec Ideal S256x1024 .bf16) : Prop :=
  ∀ y : S256x1024.Idx, Gelu.ref (x0 y) (x1 y) = D (y 0 : ℕ) (C + (y 1 : ℕ))

/-- So is that of each tile loaded from it. -/
theorem Blk.ld (h : Blk D C x0 x1) (a b : ℕ) (inb : ∀ k, (![a, b] : Fin 2 → ℕ) k + S128x128.size k ≤ S256x1024.size k) :
    Is D a (C + b) (View.ld (Val := Elt Ideal) (e' := .bf16) x0 (Rect.unit (s := S256x1024) ![a, b] S128x128.size inb))
      (View.ld (Val := Elt Ideal) (e' := .bf16) x1 (Rect.unit (s := S256x1024) ![a, b] S128x128.size inb)) := by
  intro p q
  rw [Gelu.tile_apply]
  refine (h _).trans ?_
  have e0 := Rect.idx_unit_val (s := S256x1024) ![a, b] S128x128.size inb (ix2 p q) 0
  have e1 := Rect.idx_unit_val (s := S256x1024) ![a, b] S128x128.size inb (ix2 p q) 1
  rw [e0, e1, Nat.add_assoc]
  rfl

/-- What the body leaves of the column sums. -/
theorem out2_of (h : Blk D C x0 x1) (y : S1x1024.Idx) :
    out0_2 (F := Ideal) x0 x1 y = cSum D 0 (C + (y 1 : ℕ)) + cSum D 128 (C + (y 1 : ℕ)) := by
  rw [out2_eq]
  canon_tiles x h
  all_goals
    refine (colSums_of (h.ld _ _ _) (h.ld _ _ _) _).trans ?_
    congr 2 <;> omega

/-- Row codes at equal coordinates are equal. -/
theorem rCode_congr {r r' c c' b b' : ℕ} (hr : r = r') (hc : c = c') (hb : b = b') : rCode D r c b = rCode D r' c' b' := by
  rw [hr, hc, hb]

/-- Column codes at equal coordinates are equal. -/
theorem cCode_congr {r r' c c' b b' : ℕ} (hr : r = r') (hc : c = c') (hb : b = b') : cCode D r c b = cCode D r' c' b' := by
  rw [hr, hc, hb]

/-- What the body leaves of the row codes. -/
theorem out3_of (h : Blk D C x0 x1) (y : S256x1024.Idx) :
    out0_3 (F := Ideal) x0 x1 y = rCode D (y 0 : ℕ) (C + (y 1 : ℕ)) (C + 128 * ((y 1 : ℕ) / 128)) := by
  rw [out3_eq]
  canon_tiles x h
  all_goals exact (rowCodes_of (h.ld _ _ _) _).trans (rCode_congr (by omega) (by omega) (by omega))

/-- What the body leaves of the row scales. -/
theorem out4_of (h : Blk D C x0 x1) (y : S8x256.Idx) :
    out0_4 (F := Ideal) x0 x1 y = scaleS (rV D (y 1 : ℕ) (C + 128 * (y 0 : ℕ))) := by
  rw [out4_eq]
  canon_tiles x h
  all_goals
    refine (rowScales_of (h.ld _ _ _) _).trans ?_
    congr 2 <;> omega

/-- What the body leaves of the column codes. -/
theorem out5_of (h : Blk D C x0 x1) (y : S1024x256.Idx) :
    out0_5 (F := Ideal) x0 x1 y = cCode D (y 1 : ℕ) (C + (y 0 : ℕ)) (128 * ((y 1 : ℕ) / 128)) := by
  rw [out5_eq]
  canon_tiles x h
  all_goals exact (colCodes_of (h.ld _ _ _) _).trans (cCode_congr (by omega) (by omega) (by omega))

/-- What the body leaves of the column scales. -/
theorem out6_of (h : Blk D C x0 x1) (y : S2x1024.Idx) :
    out0_6 (F := Ideal) x0 x1 y = scaleS (cV D (128 * (y 0 : ℕ)) (C + (y 1 : ℕ))) := by
  rw [out6_eq]
  canon_tiles x h
  all_goals
    refine (colScales_of (h.ld _ _ _) _).trans ?_
    congr 2 <;> omega

end

end Cert.KernelIdeal.TileVal

end
-- ==== Proof.KernelVal.lean ====
/- The five arrays the kernel's run leaves, index by index, from the product of its two arguments as a function of row
   and column. -/
module

public import proofs.«01_k».proof.Proof.TileVal

@[expose] public section

set_option maxRecDepth 16384

noncomputable section

namespace Cert.KernelIdeal.KernelVal

open Cert.KernelIdeal Cert.KernelIdeal.Gen Cert.KernelIdeal.TileVal Cert.Spec Cert.Exponent
open Idealize.ShloMosaic Idealize.ShloMosaic.TcCoe Idealize.SL.Sem

/-- Where each window's block lies at a grid point. -/
theorem idx : ∀ t : Fin cfg0.N, win0_0.index t = ![0, t.val] ∧ win0_1.index t = ![0, t.val] ∧ win0_2.index t = ![0, t.val] ∧
    win0_3.index t = ![0, t.val] ∧ win0_4.index t = ![t.val, 0] ∧ win0_5.index t = ![t.val, 0] ∧ win0_6.index t = ![0, t.val] :=
  (by decide +kernel : ∀ t : Fin grid0.N, _)

/-- The product of the two inputs with the gradient of gelu, as a function of row and column. -/
def prod (G X : FVec Ideal S256x26624 .bf16) (r q : ℕ) : EReal :=
  if h : r < 256 ∧ q < 26624 then Gelu.ref (G (ix2 ⟨r, h.1⟩ ⟨q, h.2⟩)) (X (ix2 ⟨r, h.1⟩ ⟨q, h.2⟩)) else 0

/-- The product at an index whose coordinates are `r` and `q`. -/
theorem prod_of (G X : FVec Ideal S256x26624 .bf16) {r q : ℕ} (i : S256x26624.Idx) (h0 : (i 0 : ℕ) = r) (h1 : (i 1 : ℕ) = q) :
    Gelu.ref (G i) (X i) = prod G X r q := by
  subst h0 h1
  rw [prod, dif_pos ⟨(i 0).isLt, (i 1).isLt⟩]
  rw [← ix2_eta i]
  rfl

variable (m : (ℓ : Loc nD τ sig) → Buf (Elt Ideal) ℓ) (c : Dev nD)

/-- The product of the two arguments on a core. -/
abbrev D : ℕ → ℕ → EReal := prod (m ((c : Thread nD τ).loc main_arg0)) (m ((c : Thread nD τ).loc main_arg1))

/-- The blocks at a grid point hold the arguments from column 1024 t on. -/
theorem blk (t : Fin cfg0.N) : Blk (D m c) (1024 * t.val) (iblk m c 0 t) (iblk m c 1 t) := by
  intro y
  have ht : t.val < 26 := t.isLt
  have h0 : (y 0 : ℕ) < 256 := (y 0).isLt
  have h1 : (y 1 : ℕ) < 1024 := (y 1).isLt
  have hq : 1024 * t.val + (y 1 : ℕ) < 26624 := by omega
  have e0 : iblk m c 0 t y = m ((c : Thread nD τ).loc main_arg0) (ix2 ⟨(y 0 : ℕ), h0⟩ ⟨1024 * t.val + (y 1 : ℕ), hq⟩) := by
    blk_ext [iblk, V, idx t]
  have e1 : iblk m c 1 t y = m ((c : Thread nD τ).loc main_arg1) (ix2 ⟨(y 0 : ℕ), h0⟩ ⟨1024 * t.val + (y 1 : ℕ), hq⟩) := by
    blk_ext [iblk, V, idx t]
  rw [e0, e1]
  exact prod_of _ _ _ rfl rfl

/-- The column sums, as the run leaves them. -/
theorem arr2 : (dats m 0 c).arrAt 2 cfg0.N = fun i : S1x26624.Idx =>
    cSum (D m c) 0 (i 1 : ℕ) + cSum (D m c) 128 (i 1 : ℕ) := by
  refine (dats m 0 c).arrAt_eq_of_covers 2 _ (by decide +kernel) fun t _ y => ?_
  blk_simp
  rw [after0_2, out2_of (blk m c t)]
  simp only [idx t]
  have e : t.val * 1024 + (y 1 : ℕ) = 1024 * t.val + (y 1 : ℕ) := by omega
  exact congrArg (fun q => cSum (D m c) 0 q + cSum (D m c) 128 q) e.symm

/-- The row codes, as the run leaves them. -/
theorem arr3 : (dats m 0 c).arrAt 3 cfg0.N = fun i : S256x26624.Idx =>
    rCode (D m c) (i 0 : ℕ) (i 1 : ℕ) (128 * ((i 1 : ℕ) / 128)) := by
  refine (dats m 0 c).arrAt_eq_of_covers 3 _ (by decide +kernel) fun t _ y => ?_
  blk_simp
  rw [after0_3, out3_of (blk m c t)]
  simp only [idx t]
  refine rCode_congr ?_ ?_ ?_
  · change (y 0 : ℕ) = 0 * 256 + (y 0 : ℕ)
    omega
  · change 1024 * t.val + (y 1 : ℕ) = t.val * 1024 + (y 1 : ℕ)
    omega
  · change 1024 * t.val + 128 * ((y 1 : ℕ) / 128) = 128 * ((t.val * 1024 + (y 1 : ℕ)) / 128)
    omega

/-- The row scales, transposed, as the run leaves them. -/
theorem arr4 : (dats m 0 c).arrAt 4 cfg0.N = fun i : S208x256.Idx =>
    scaleS (rV (D m c) (i 1 : ℕ) (128 * (i 0 : ℕ))) := by
  refine (dats m 0 c).arrAt_eq_of_covers 4 _ (by decide +kernel) fun t _ y => ?_
  blk_simp
  rw [after0_4, out4_of (blk m c t)]
  simp only [idx t]
  have e0 : (y 1 : ℕ) = 0 * 256 + (y 1 : ℕ) := by omega
  have e1 : 1024 * t.val + 128 * (y 0 : ℕ) = 128 * (t.val * 8 + (y 0 : ℕ)) := by omega
  exact congrArg₂ (fun r q => scaleS (rV (D m c) r q)) e0 e1

/-- The column codes, as the run leaves them. -/
theorem arr5 : (dats m 0 c).arrAt 5 cfg0.N = fun i : S26624x256.Idx =>
    cCode (D m c) (i 1 : ℕ) (i 0 : ℕ) (128 * ((i 1 : ℕ) / 128)) := by
  refine (dats m 0 c).arrAt_eq_of_covers 5 _ (by decide +kernel) fun t _ y => ?_
  blk_simp
  rw [after0_5, out5_of (blk m c t)]
  simp only [idx t]
  refine cCode_congr ?_ ?_ ?_
  · change (y 1 : ℕ) = 0 * 256 + (y 1 : ℕ)
    omega
  · change 1024 * t.val + (y 0 : ℕ) = t.val * 1024 + (y 0 : ℕ)
    omega
  · change 128 * ((y 1 : ℕ) / 128) = 128 * ((0 * 256 + (y 1 : ℕ)) / 128)
    omega

/-- The column scales, transposed, as the run leaves them. -/
theorem arr6 : (dats m 0 c).arrAt 6 cfg0.N = fun i : S2x26624.Idx =>
    scaleS (cV (D m c) (128 * (i 0 : ℕ)) (i 1 : ℕ)) := by
  refine (dats m 0 c).arrAt_eq_of_covers 6 _ (by decide +kernel) fun t _ y => ?_
  blk_simp
  rw [after0_6, out6_of (blk m c t)]
  simp only [idx t]
  have e0 : 128 * (y 0 : ℕ) = 128 * (0 * 2 + (y 0 : ℕ)) := by omega
  have e1 : 1024 * t.val + (y 1 : ℕ) = t.val * 1024 + (y 1 : ℕ) := by omega
  exact congrArg₂ (fun r q => scaleS (cV (D m c) r q)) e0 e1

end Cert.KernelIdeal.KernelVal

end
-- ==== Proof.KernelTail.lean ====
/- The kernel's three results that operations after the launch lay out anew, index by index. -/
module

public import proofs.«01_k».proof.Proof.KernelVal

@[expose] public section

set_option maxRecDepth 16384

noncomputable section

namespace Cert.KernelIdeal.KernelTail

open Cert.KernelIdeal Cert.KernelIdeal.Gen Cert.KernelIdeal.KernelVal Cert.Spec Cert.Exponent
open Idealize.ShloMosaic Idealize.ShloMosaic.TcCoe Idealize.SL.Sem

variable (m : (ℓ : Loc nD τ sig) → Buf (Elt Ideal) ℓ) (c : Dev nD)

/-- The buffers as the launch leaves them. -/
abbrev W : Valuation τ sig (Elt Ideal) :=
  Pipeline.withArrays (cfgs 0).spec c (V0 m c) fun w => (dats m 0 c).arrAt w (cfgs 0).N

/-- The launch leaves window 2's array in its buffer. -/
theorem W2 : W m c (Proc.devRef .tc main_v0_0) = (dats m 0 c).arrAt 2 cfg0.N :=
  Pipeline.withArrays_arr spec0 launch0.win.arr_inj c (V0 m c) (fun w => (dats m 0 c).arrAt w cfg0.N) 2

/-- The launch leaves window 4's array in its buffer. -/
theorem W4 : W m c (Proc.devRef .tc main_v0_2) = (dats m 0 c).arrAt 4 cfg0.N :=
  Pipeline.withArrays_arr spec0 launch0.win.arr_inj c (V0 m c) (fun w => (dats m 0 c).arrAt w cfg0.N) 4

/-- The launch leaves window 6's array in its buffer. -/
theorem W6 : W m c (Proc.devRef .tc main_v0_4) = (dats m 0 c).arrAt 6 cfg0.N :=
  Pipeline.withArrays_arr spec0 launch0.win.arr_inj c (V0 m c) (fun w => (dats m 0 c).arrAt w cfg0.N) 6

/-- The column sums. -/
theorem v1 : Pipeline.afterTail₀ cfgs (dats m) 0 (V0 m) [hostOps1] c main_v1 = fun i : S26624.Idx =>
    cSum (D m c) 0 (i 0 : ℕ) + cSum (D m c) 128 (i 0 : ℕ) := by
  have e : Pipeline.afterTail₀ cfgs (dats m) 0 (V0 m) [hostOps1] c main_v1 =
      shapeCast S26624 (W m c (Proc.devRef .tc main_v0_0)) shapeCasts_S1x26624_S26624 := by
    unfold Pipeline.afterTail₀
    simp only [List.flatten_cons, List.flatten_nil, List.append_nil]
    after_results
    try rfl
  rw [e, W2, arr2]
  funext i
  pointwise

/-- The row scales. -/
theorem v2 : Pipeline.afterTail₀ cfgs (dats m) 0 (V0 m) [hostOps1] c main_v2 = fun i : S256x208.Idx =>
    scaleS (rV (D m c) (i 0 : ℕ) (128 * (i 1 : ℕ))) := by
  have e : Pipeline.afterTail₀ cfgs (dats m) 0 (V0 m) [hostOps1] c main_v2 =
      transpose S256x208 [1, 0] (W m c (Proc.devRef .tc main_v0_2)) transposes_S208x256_S256x208_1_0 := by
    unfold Pipeline.afterTail₀
    simp only [List.flatten_cons, List.flatten_nil, List.append_nil]
    after_results
    try rfl
  rw [e, W4, arr4]
  funext i
  pointwise

/-- The column scales. -/
theorem v3 : Pipeline.afterTail₀ cfgs (dats m) 0 (V0 m) [hostOps1] c main_v3 = fun i : S26624x2.Idx =>
    scaleS (cV (D m c) (128 * (i 1 : ℕ)) (i 0 : ℕ)) := by
  have e : Pipeline.afterTail₀ cfgs (dats m) 0 (V0 m) [hostOps1] c main_v3 =
      transpose S26624x2 [1, 0] (W m c (Proc.devRef .tc main_v0_4)) transposes_S2x26624_S26624x2_1_0 := by
    unfold Pipeline.afterTail₀
    simp only [List.flatten_cons, List.flatten_nil, List.append_nil]
    after_results
    try rfl
  rw [e, W6, arr6]
  funext i
  pointwise

end Cert.KernelIdeal.KernelTail

end
-- ==== Proof.Bound.lean ====
/- The maxima the quantiser divides by are real, not negative and far below the greatest f32 when the numbers they are
   taken of are bounded. -/
module

public import proofs.«01_k».proof.Proof.TileVal

@[expose] public section

set_option maxRecDepth 16384

noncomputable section

namespace Cert.Spec

open Idealize.ShloMosaic Cert.Exponent

/-- Every entry is real and at most 2·255·2^120 in magnitude. -/
def Small (D : ℕ → ℕ → EReal) : Prop := ∀ r c : ℕ, ∃ d : ℝ, D r c = (d : EReal) ∧ |d| ≤ 2 * (255 * 2 ^ 120)

/-- The word of the maximum's starting value denotes the least element. -/
theorem ofBits_ninf : Ideal.ofBits .f32 0xFF800000#32 = ⊥ := by
  simp [Ideal.ofBits, Ideal.ieee]

/-- The greatest of the magnitudes of real numbers up to `B` is a real number from 0 to `B`. -/
theorem fold_small {B : ℝ} {f : Fin 128 → EReal} (h : ∀ k, ∃ d : ℝ, f k = (d : EReal) ∧ |d| ≤ B) (s : Finset (Fin 128)) :
    s.Nonempty → ∃ v : ℝ, Finset.fold max (Ideal.ofBits .f32 0xFF800000#32)
      (fun k => FloatOps.absf (F := Ideal) (φ := .f32) (f k)) s = (v : EReal) ∧ 0 ≤ v ∧ v ≤ B := by
  have ha : ∀ k, ∃ a : ℝ, FloatOps.absf (F := Ideal) (φ := .f32) (f k) = (a : EReal) ∧ 0 ≤ a ∧ a ≤ B := by
    intro k
    obtain ⟨d, e, hd⟩ := h k
    refine ⟨|d|, ?_, abs_nonneg d, hd⟩
    rw [e]
    rfl
  induction s using Finset.induction_on with
  | empty => intro h; exact absurd h (by simp)
  | insert k s hk ih =>
    intro _
    rw [Finset.fold_insert hk]
    obtain ⟨a, e, a0, aB⟩ := ha k
    rw [e]
    rcases s.eq_empty_or_nonempty with rfl | hs
    · refine ⟨a, ?_, a0, aB⟩
      rw [Finset.fold_empty, ofBits_ninf]
      exact max_eq_left bot_le
    · obtain ⟨v, ev, v0, vB⟩ := ih hs
      refine ⟨max a v, ?_, le_max_of_le_left a0, max_le aB vB⟩
      rw [ev]
      rcases le_total a v with h | h
      · rw [max_eq_right h, max_eq_right (EReal.coe_le_coe_iff.2 h)]
      · rw [max_eq_left h, max_eq_left (EReal.coe_le_coe_iff.2 h)]

/-- The maximum of 128 bounded numbers, over the greatest code, is real, not negative and less than 2^126. -/
theorem mxv_small {f : Fin 128 → EReal} (h : ∀ k, ∃ d : ℝ, f k = (d : EReal) ∧ |d| ≤ 2 * (255 * 2 ^ 120)) :
    ∃ v : ℝ, mxv f = (v : EReal) ∧ 0 ≤ v ∧ v < pw 253 := by
  obtain ⟨v, e, v0, vB⟩ := fold_small h Finset.univ ⟨0, Finset.mem_univ _⟩
  have hc : Ideal.ofBits .f32 0x37924925#32 = ((9586981 / 2 ^ 39 : ℝ) : EReal) := by
    simp [Ideal.ofBits, Ideal.ieee, -EReal.coe_mul]
    norm_num
  refine ⟨v * (9586981 / 2 ^ 39), ?_, by positivity, ?_⟩
  · rw [mxv, e, hc, ← EReal.coe_mul]
  · refine lt_of_le_of_lt (mul_le_mul_of_nonneg_right vB (by positivity)) ?_
    rw [pw, if_neg (by decide)]
    norm_num

/-- The maxima of the row groups are such. -/
theorem Small.rV {D : ℕ → ℕ → EReal} (h : Small D) (r c : ℕ) : ∃ v : ℝ, rV D r c = (v : EReal) ∧ 0 ≤ v ∧ v < pw 253 :=
  mxv_small fun k => h r (c + k)

/-- The maxima of the column groups are such. -/
theorem Small.cV {D : ℕ → ℕ → EReal} (h : Small D) (r c : ℕ) : ∃ v : ℝ, cV D r c = (v : EReal) ∧ 0 ≤ v ∧ v < pw 253 :=
  mxv_small fun k => h (r + k) c

end Cert.Spec

end
-- ==== Proof.RefRun.lean ====
/- The reference's host operations, run in order: what the region finds in each array it reads and in each result. -/
module

public import proofs.«01_k».proof.Proof.Ref

@[expose] public section

set_option maxRecDepth 16384
set_option maxHeartbeats 1000000

noncomputable section

namespace Cert.ReferenceIdeal.Ref

open Cert.ReferenceIdeal Cert.ReferenceIdeal.Gen Idealize.ShloMosaic Idealize.ShloMosaic.TcCoe Idealize.SL.Sem

variable {F : FTy → Type} [FloatOps F]

variable (σ : Valuation τ sig (Elt F))

/-- The contents after the first line of host operations. -/
abbrev W0 : Valuation τ sig (Elt F) := StableHlo.after hostOps0 σ

/-- The contents after the lines that scale the rows. -/
abbrev W1 : Valuation τ sig (Elt F) := StableHlo.after hostOps0_5 (StableHlo.after hostOps0_4 (StableHlo.after hostOps0_3
  (StableHlo.after hostOps0_2 (StableHlo.after hostOps0_1 σ))))

/-- The contents after the line that finds the greatest magnitudes of the column groups. -/
abbrev W2 : Valuation τ sig (Elt F) := StableHlo.after hostOps0_6 σ

/-- The contents after the lines that scale the columns. -/
abbrev W3 : Valuation τ sig (Elt F) := StableHlo.after hostOps0_12 (StableHlo.after hostOps0_11 (StableHlo.after hostOps0_10
  (StableHlo.after hostOps0_9 (StableHlo.after hostOps0_8 (StableHlo.after hostOps0_7 σ)))))

/-- What these lines leave in `main_v31`. -/
theorem W0_v31 : W0 σ main_v31 = (dg (σ main_arg0) (σ main_arg1)) := by
  unfold W0
  entry_read
  first | done | rfl

/-- What these lines leave in `main_v32`. -/
theorem W0_v32 : W0 σ main_v32 = dbias (dg (σ main_arg0) (σ main_arg1)) := by
  unfold W0
  entry_read
  first | done | rfl

/-- What these lines leave in `main_v33`. -/
theorem W0_v33 : W0 σ main_v33 = shapeCast S256x208x128 (dg (σ main_arg0) (σ main_arg1)) shapeCasts_S256x26624_S256x208x128 := by
  unfold W0
  entry_read
  first | done | rfl

/-- What these lines leave in `main_v37`. -/
theorem W0_v37 : W0 σ main_v37 = rowV (dg (σ main_arg0) (σ main_arg1)) := by
  unfold W0
  entry_read
  first | done | rfl

/-- What these lines leave in `main_v39`. -/
theorem W0_v39 : W0 σ main_v39 = normal bcast_S_S256x208 (rowV (dg (σ main_arg0) (σ main_arg1))) := by
  unfold W0
  entry_read
  first | done | rfl

/-- What these lines leave in `main_cst_13`. -/
theorem W0_cst_13 : W0 σ main_cst_13 = constant S_ .f32 0x3F800000#32 := by
  unfold W0
  entry_read
  first | done | rfl

/-- What these lines leave in `main_v31`. -/
theorem W1_v31 : W1 σ main_v31 = σ main_v31 := by
  unfold W1
  entry_read
  first | done | rfl

/-- What these lines leave in `main_v32`. -/
theorem W1_v32 : W1 σ main_v32 = σ main_v32 := by
  unfold W1
  entry_read
  first | done | rfl

/-- What these lines leave in `main_v51`. -/
theorem W1_v51 (v : FVec F S256x208 .f32) (h37 : σ main_v37 = v) (h39 : σ main_v39 = normal bcast_S_S256x208 v)
    (hc : σ main_cst_13 = constant (F := F) S_ .f32 0x3F800000#32) : W1 σ main_v51 = scale bcast_S_S256x208 v := by
  unfold W1
  entry_read
  rw [h37, h39, hc]
  first | done | rfl

/-- What these lines leave in `main_v58`. -/
theorem W1_v58 (v : FVec F S256x208 .f32) (d : FVec F S256x208x128 .f32) (h37 : σ main_v37 = v) (h39 : σ main_v39 = normal bcast_S_S256x208 v)
    (hc : σ main_cst_13 = constant (F := F) S_ .f32 0x3F800000#32) (h33 : σ main_v33 = d) : W1 σ main_v58 = clip bcast_S_S256x208x128 (mulf d
      (broadcastInDim S256x208x128 ![0, 1, 2] bcast_S256x208x1_S256x208x128_0_1_2
        (broadcastInDim S256x208x1 ![0, 1] bcast_S256x208_S256x208x1_0_1 (inv bcast_S_S256x208 v)))) := by
  unfold W1
  entry_read
  rw [h37, h39, hc, h33]
  first | done | rfl

/-- What these lines leave in `main_v32`. -/
theorem W2_v32 : W2 σ main_v32 = σ main_v32 := by
  unfold W2
  entry_read
  first | done | rfl

/-- What these lines leave in `main_v51`. -/
theorem W2_v51 : W2 σ main_v51 = σ main_v51 := by
  unfold W2
  entry_read
  first | done | rfl

/-- What these lines leave in `main_v59`. -/
theorem W2_v59 : W2 σ main_v59 = shapeCast S256x26624 (σ main_v58) shapeCasts_S256x208x128_S256x26624 := by
  unfold W2
  entry_read
  first | done | rfl

/-- What these lines leave in `main_v60`. -/
theorem W2_v60 : W2 σ main_v60 = shapeCast S2x128x26624 (σ main_v31) shapeCasts_S256x26624_S2x128x26624 := by
  unfold W2
  entry_read
  first | done | rfl

/-- What these lines leave in `main_v64`. -/
theorem W2_v64 : W2 σ main_v64 = colV (σ main_v31) := by
  unfold W2
  entry_read
  first | done | rfl

/-- What these lines leave in `main_v66`. -/
theorem W2_v66 : W2 σ main_v66 = normal bcast_S_S2x26624 (colV (σ main_v31)) := by
  unfold W2
  entry_read
  first | done | rfl

/-- What these lines leave in `main_cst_24`. -/
theorem W2_cst_24 : W2 σ main_cst_24 = constant S_ .f32 0x3F800000#32 := by
  unfold W2
  entry_read
  first | done | rfl

/-- What these lines leave in `main_v32`. -/
theorem W3_v32 : W3 σ main_v32 = σ main_v32 := by
  unfold W3
  entry_read
  first | done | rfl

/-- What these lines leave in `main_v51`. -/
theorem W3_v51 : W3 σ main_v51 = σ main_v51 := by
  unfold W3
  entry_read
  first | done | rfl

/-- What these lines leave in `main_v59`. -/
theorem W3_v59 : W3 σ main_v59 = σ main_v59 := by
  unfold W3
  entry_read
  first | done | rfl

/-- What these lines leave in `main_v88`. -/
theorem W3_v88 (v : FVec F S2x26624 .f32) (h64 : σ main_v64 = v) (h66 : σ main_v66 = normal bcast_S_S2x26624 v)
    (hc : σ main_cst_24 = constant (F := F) S_ .f32 0x3F800000#32) : W3 σ main_v88 = transpose S26624x2 [1, 0] (scale bcast_S_S2x26624 v) transposes_S2x26624_S26624x2_1_0 := by
  unfold W3
  entry_read
  rw [h64, h66, hc]
  first | done | rfl

/-- What these lines leave in `main_v87`. -/
theorem W3_v87 (v : FVec F S2x26624 .f32) (d : FVec F S2x128x26624 .f32) (h64 : σ main_v64 = v) (h66 : σ main_v66 = normal bcast_S_S2x26624 v)
    (hc : σ main_cst_24 = constant (F := F) S_ .f32 0x3F800000#32) (h60 : σ main_v60 = d) : W3 σ main_v87 = transpose S26624x256 [1, 0] (shapeCast S256x26624 (clip bcast_S_S2x128x26624
    (mulf d
    (broadcastInDim S2x128x26624 ![0, 1, 2] bcast_S2x1x26624_S2x128x26624_0_1_2
      (broadcastInDim S2x1x26624 ![0, 2] bcast_S2x26624_S2x1x26624_0_2 (inv bcast_S_S2x26624 v)))))
    shapeCasts_S2x128x26624_S256x26624) transposes_S256x26624_S26624x256_1_0 := by
  unfold W3
  entry_read
  rw [h64, h66, hc, h60]
  first | done | rfl

/-- A list of lines runs one line after the other. -/
theorem after_flatten (l : List (HloOp τ sig (Elt F))) (ls : List (List (HloOp τ sig (Elt F)))) :
    StableHlo.after (List.flatten (l :: ls)) σ = StableHlo.after (List.flatten ls) (StableHlo.after l σ) := by
  rw [List.flatten_cons]
  induction l generalizing σ with
  | nil => rfl
  | cons op l ih => exact ih _

/-- The region finds what the lines leave, one after the other. -/
theorem V_eq (m : (ℓ : Loc nD τ sig) → Buf (Elt F) ℓ) (c : Dev nD) (b : Ref sig .tc) :
    V m c b = W3 (W2 (W1 (W0 (fun b => m (c, b))))) b := by
  unfold V
  rw [after_flatten, after_flatten, after_flatten, after_flatten, after_flatten, after_flatten, after_flatten, after_flatten, after_flatten, after_flatten, after_flatten, after_flatten, after_flatten]
  rw [List.flatten_nil, StableHlo.after_nil]

variable (m : (ℓ : Loc nD τ sig) → Buf (Elt F) ℓ) (c : Dev nD)

/-- What the region finds in `main_v32`. -/
theorem V_dbias : V m c main_v32 = dbias (dg (m ((c : Thread nD τ).loc main_arg0)) (m ((c : Thread nD τ).loc main_arg1))) := by
  rw [V_eq, W3_v32, W2_v32, W1_v32, W0_v32]
  first | done | rfl

/-- What the region finds in `main_v51`. -/
theorem V_rowScales : V m c main_v51 = rowScales (dg (m ((c : Thread nD τ).loc main_arg0)) (m ((c : Thread nD τ).loc main_arg1))) := by
  rw [V_eq, W3_v51, W2_v51, W1_v51 _ _ (W0_v37 _) (W0_v39 _) (W0_cst_13 _)]
  first | done | rfl

/-- What the region finds in `main_v59`. -/
theorem V_row : V m c main_v59 = row (dg (m ((c : Thread nD τ).loc main_arg0)) (m ((c : Thread nD τ).loc main_arg1))) := by
  rw [V_eq, W3_v59, W2_v59, W1_v58 _ _ _ (W0_v37 _) (W0_v39 _) (W0_cst_13 _) (W0_v33 _)]
  first | done | rfl

/-- What the region finds in `main_v88`. -/
theorem V_colScales : V m c main_v88 = colScales (dg (m ((c : Thread nD τ).loc main_arg0)) (m ((c : Thread nD τ).loc main_arg1))) := by
  rw [V_eq, W3_v88 _ _ (W2_v64 _) (W2_v66 _) (W2_cst_24 _), W1_v31, W0_v31]
  first | done | rfl

/-- What the region finds in `main_v87`. -/
theorem V_col : V m c main_v87 = col (dg (m ((c : Thread nD τ).loc main_arg0)) (m ((c : Thread nD τ).loc main_arg1))) := by
  rw [V_eq, W3_v87 _ _ _ (W2_v64 _) (W2_v66 _) (W2_cst_24 _) (W2_v60 _), W1_v31, W0_v31]
  first | done | rfl

end Cert.ReferenceIdeal.Ref

end
-- ==== Proof.RefVal.lean ====
/- The reference's arrays, index by index, from the product of the two inputs as a function of row and column. -/
module

public import proofs.«01_k».proof.Proof.Bound
public import proofs.«01_k».proof.Proof.RefRun

@[expose] public section

set_option maxRecDepth 16384

noncomputable section

namespace Cert.ReferenceIdeal.RefVal

open Cert.ReferenceIdeal Cert.ReferenceIdeal.Gen Cert.ReferenceIdeal.Ref Cert.Spec Cert.Exponent
open Idealize.ShloMosaic Idealize.ShloMosaic.TcCoe Idealize.SL.Sem

/-- The maximum along the last axis of a rank-3 array of magnitudes. -/
theorem rowMax (v : FVec Ideal S256x208x128 .f32) (i : S256x208.Idx) :
    Host.reduce FloatOps.maximumf (Host.absf v) (constant (F := Ideal) S_ .f32 0xFF800000#32)
      reducesTo_S256x208x128_S256x208_d2 h_S_ i =
    Finset.fold max (Ideal.ofBits .f32 0xFF800000#32)
      (fun k => FloatOps.absf (F := Ideal) (φ := .f32) (v (ix3 (i 0) (i 1) k))) Finset.univ := by
  rw [Host.reduce_eq_fold, Shape.ReducesTo.fold_fiber_r3_a2]
  rfl

/-- The maximum along the middle axis of a rank-3 array of magnitudes. -/
theorem colMax (v : FVec Ideal S2x128x26624 .f32) (i : S2x26624.Idx) :
    Host.reduce FloatOps.maximumf (Host.absf v) (constant (F := Ideal) S_ .f32 0xFF800000#32)
      reducesTo_S2x128x26624_S2x26624_d1 h_S_ i =
    Finset.fold max (Ideal.ofBits .f32 0xFF800000#32)
      (fun k => FloatOps.absf (F := Ideal) (φ := .f32) (v (ix3 (i 0) k (i 1)))) Finset.univ := by
  rw [Host.reduce_eq_fold, Shape.ReducesTo.fold_fiber_r3_a1]
  rfl

/-- A product with a broadcast constant, index by index. -/
theorem mul_cst {s : Shape} (h : S_.BroadcastsInDim s (![] : Fin 0 → Fin s.rank)) (v : FVec Ideal s .f32) (b : BitVec 32)
    (i : s.Idx) : mulf v (cst h b) i = v i * Ideal.ofBits .f32 b := by
  rfl

variable {d : FVec Ideal S256x26624 .f32} {D : ℕ → ℕ → EReal}

/-- The array is `D`, by row and column. -/
abbrev Is (D : ℕ → ℕ → EReal) (d : FVec Ideal S256x26624 .f32) : Prop :=
  ∀ i : S256x26624.Idx, d i = D (i 0 : ℕ) (i 1 : ℕ)

/-- The maxima of the row groups. -/
theorem rowV_of (h : Is D d) (i : S256x208.Idx) : rowV d i = rV D (i 0 : ℕ) (128 * (i 1 : ℕ)) := by
  have e : ∀ k : Fin 128, shapeCast S256x208x128 d shapeCasts_S256x26624_S256x208x128 (ix3 (i 0) (i 1) k) =
      D (i 0 : ℕ) (128 * (i 1 : ℕ) + k) := by
    intro k
    pointwise
    rw [h]
    exact congrArg (D (i 0 : ℕ)) (by change (i 1 : ℕ) * 128 + (k : ℕ) = _; omega)
  unfold rowV
  rw [mul_cst, rowMax]
  simp only [e]
  rfl

/-- The maxima of the column groups. -/
theorem colV_of (h : Is D d) (i : S2x26624.Idx) : colV d i = cV D (128 * (i 0 : ℕ)) (i 1 : ℕ) := by
  have e : ∀ k : Fin 128, shapeCast S2x128x26624 d shapeCasts_S256x26624_S2x128x26624 (ix3 (i 0) k (i 1)) =
      D (128 * (i 0 : ℕ) + k) (i 1 : ℕ) := by
    intro k
    pointwise
    rw [h]
    exact congrArg (fun r => D r (i 1 : ℕ)) (by change (i 0 : ℕ) * 128 + (k : ℕ) = _; omega)
  unfold colV
  rw [mul_cst, colMax]
  simp only [e]
  rfl

/-- The column sums. -/
theorem dbias_of (h : Is D d) (i : S26624.Idx) : dbias d i = cSum D 0 (i 0 : ℕ) + cSum D 128 (i 0 : ℕ) := by
  unfold dbias
  pointwise
  have e : ∀ k : Fin 256, d (ix2 k (i 0)) = D (k : ℕ) (i 0 : ℕ) := fun k => h _
  rw [Finset.sum_congr rfl fun k _ => e k]
  refine (Fin.sum_univ_add (a := 128) (b := 128) fun k : Fin (128 + 128) => D (k : ℕ) (i 0 : ℕ)).trans ?_
  simp only [cSum, Fin.val_castAdd, Fin.val_natAdd, Nat.zero_add]

variable (hs : Small D)
include hs

/-- The row scales. -/
theorem rowScales_of (h : Is D d) (i : S256x208.Idx) :
    rowScales d i = scaleS (rV D (i 0 : ℕ) (128 * (i 1 : ℕ))) := by
  obtain ⟨v, e, h0, hv⟩ := hs.rV (i 0 : ℕ) (128 * (i 1 : ℕ))
  unfold rowScales
  rw [refScale_apply, rowV_of h, e, (scale_inv h0 hv).1]

/-- The column scales. -/
theorem colScales_of (h : Is D d) (i : S26624x2.Idx) :
    colScales d i = scaleS (cV D (128 * (i 1 : ℕ)) (i 0 : ℕ)) := by
  obtain ⟨v, e, h0, hv⟩ := hs.cV (128 * (i 1 : ℕ)) (i 0 : ℕ)
  have hc : colV d (ix2 (i 1) (i 0)) = (v : EReal) := (colV_of h _).trans e
  unfold colScales
  pointwise
  rw [refScale_apply, hc, e, (scale_inv h0 hv).1]

/-- The row codes. -/
theorem row_of (h : Is D d) (i : S256x26624.Idx) :
    row d i = rCode D (i 0 : ℕ) (i 1 : ℕ) (128 * ((i 1 : ℕ) / 128)) := by
  obtain ⟨v, e, h0, hv⟩ := hs.rV (i 0 : ℕ) (128 * ((i 1 : ℕ) / 128))
  have hb : (i 1 : ℕ) / 128 < 208 := by have : (i 1 : ℕ) < 26624 := (i 1).isLt; omega
  have hc : rowV d (ix2 (i 0) ⟨(i 1 : ℕ) / 128, hb⟩) = (v : EReal) := (rowV_of h _).trans e
  unfold row clip
  pointwise
  rw [refInv_apply, hc, rCode, e, (scale_inv h0 hv).2, clipS, h i]

/-- The column codes. -/
theorem col_of (h : Is D d) (i : S26624x256.Idx) :
    col d i = cCode D (i 1 : ℕ) (i 0 : ℕ) (128 * ((i 1 : ℕ) / 128)) := by
  obtain ⟨v, e, h0, hv⟩ := hs.cV (128 * ((i 1 : ℕ) / 128)) (i 0 : ℕ)
  have hb : (i 1 : ℕ) / 128 < 2 := by have : (i 1 : ℕ) < 256 := (i 1).isLt; omega
  have hc : colV d (ix2 ⟨(i 1 : ℕ) / 128, hb⟩ (i 0)) = (v : EReal) := (colV_of h _).trans e
  have hd : d (ix2 (i 1) (i 0)) = D (i 1 : ℕ) (i 0 : ℕ) := h _
  unfold col clip
  pointwise
  rw [refInv_apply, hc, cCode, e, (scale_inv h0 hv).2, clipS, hd]

end Cert.ReferenceIdeal.RefVal

end
-- ==== Proof.RefTail.lean ====
/- The reference's two arrays of codes, as its run leaves them. -/
module

public import proofs.«01_k».proof.Proof.RefVal
public import proofs.«01_k».proof.Proof.Gen.ReferenceIdeal.Value
public import Idealize.ShloMosaic.Lib.Pipeline.ValueKit

@[expose] public section

set_option maxRecDepth 16384

noncomputable section

namespace Cert.ReferenceIdeal.RefTail

open Cert.ReferenceIdeal Cert.ReferenceIdeal.Gen Cert.ReferenceIdeal.Ref
open Idealize.ShloMosaic Idealize.ShloMosaic.TcCoe Idealize.SL.Sem

variable (m : (ℓ : Loc nD τ sig) → Buf (Elt Ideal) ℓ) (c : Dev nD)

/-- The product of the two arguments with the gradient of gelu. -/
abbrev d : FVec Ideal S256x26624 .f32 :=
  dg (m ((c : Thread nD τ).loc main_arg0)) (m ((c : Thread nD τ).loc main_arg1))

/-- Each window's one block is its whole array. -/
theorem idx : ∀ t : Fin cfg0.N, win0_0.index t = ![0, 0] ∧ win0_1.index t = ![0, 0] ∧ win0_2.index t = ![0, 0] ∧
    win0_3.index t = ![0, 0] :=
  (by decide +kernel : ∀ t : Fin grid0.N, _)

/-- The first input's block is the rows. -/
theorem blk0 (t : Fin cfg0.N) (z : S256x26624.Idx) : iblk m c 0 t z = row (d m c) z := by
  have h : ∀ A : FVec Ideal S256x26624 .f32, A ((win0_0.blk t).view.emb z) = A z := by
    intro A
    blk_ext [idx t]
  exact (h _).trans (congrFun (V_row m c) z)

/-- The second input's block is the columns. -/
theorem blk1 (t : Fin cfg0.N) (z : S26624x256.Idx) : iblk m c 1 t z = col (d m c) z := by
  have h : ∀ A : FVec Ideal S26624x256 .f32, A ((win0_1.blk t).view.emb z) = A z := by
    intro A
    blk_ext [idx t]
  exact (h _).trans (congrFun (V_col m c) z)

/-- The row codes. -/
theorem arr2 : (dats m 0 c).arrAt 2 cfg0.N = row (d m c) := by
  refine (dats m 0 c).arrAt_eq_of_covers 2 _ (by decide +kernel) fun t _ y => ?_
  blk_simp
  rw [after0_2]
  unfold out0_2
  rw [Value.canon2_eq]
  have h : ∀ A : FVec Ideal S256x26624 .f32, A ((win0_2.blk t).view.emb y) = A y := by
    intro A
    blk_ext [idx t]
  refine Eq.trans ?_ ((blk0 m c t y).trans (h _).symm)
  generalize iblk m c 0 t = A
  refine congrArg A (funext fun a => Fin.ext ?_)
  match a with
  | ⟨0, _⟩ =>
    change 0 + 1 * (y 0 : ℕ) = (y 0 : ℕ)
    omega
  | ⟨1, _⟩ =>
    change 0 + 1 * (y 1 : ℕ) = (y 1 : ℕ)
    omega

/-- The column codes. -/
theorem arr3 : (dats m 0 c).arrAt 3 cfg0.N = col (d m c) := by
  refine (dats m 0 c).arrAt_eq_of_covers 3 _ (by decide +kernel) fun t _ y => ?_
  blk_simp
  rw [after0_3]
  unfold out0_3
  rw [Value.canon3_eq]
  have h : ∀ A : FVec Ideal S26624x256 .f32, A ((win0_3.blk t).view.emb y) = A y := by
    intro A
    blk_ext [idx t]
  refine Eq.trans ?_ ((blk1 m c t y).trans (h _).symm)
  generalize iblk m c 1 t = A
  refine congrArg A (funext fun a => Fin.ext ?_)
  match a with
  | ⟨0, _⟩ =>
    change 0 + 1 * (y 0 : ℕ) = (y 0 : ℕ)
    omega
  | ⟨1, _⟩ =>
    change 0 + 1 * (y 1 : ℕ) = (y 1 : ℕ)
    omega

end Cert.ReferenceIdeal.RefTail

end
-- ==== Proof.Algebraic.lean ====
/- The kernel and the reference end with equal results. -/
module

public import proofs.«01_k».proof.Defs
public import proofs.«01_k».proof.Proof.Gen.Pre_grad_is_finite
public import proofs.«01_k».proof.Proof.KernelTail
public import proofs.«01_k».proof.Proof.RefTail

@[expose] public section

set_option maxRecDepth 16384

noncomputable section

namespace Cert.Proof

open Idealize.ShloMosaic Idealize.ShloMosaic.TcCoe Idealize.SL.Sem Cert.Spec Cert.Exponent Cert.KernelIdeal.KernelVal

/-- The greatest finite bf16 number. -/
theorem ofBits_bf16_max : Ideal.ofBits .bf16 0x7F7F#16 = ((255 * 2 ^ 120 : ℝ) : EReal) := by
  simp [Ideal.ofBits, Ideal.ieee, -EReal.coe_mul]

/-- A number whose magnitude the comparison admits is real and at most 255·2^120 in magnitude. -/
theorem real_of_le {g : EReal} (h : Ideal.cmp .ole (FloatOps.absf (F := Ideal) (φ := .bf16) g) (Ideal.ofBits .bf16 0x7F7F#16) = 1#1) :
    ∃ r : ℝ, g = (r : EReal) ∧ |r| ≤ 255 * 2 ^ 120 := by
  have hle : FloatOps.absf (F := Ideal) (φ := .bf16) g ≤ Ideal.ofBits .bf16 0x7F7F#16 := by
    by_contra hn
    simp [Ideal.cmp, hn] at h
  rw [ofBits_bf16_max] at hle
  induction g with
  | bot => exact absurd (top_le_iff.1 (show (⊤ : EReal) ≤ _ from hle)) (EReal.coe_ne_top _)
  | top => exact absurd (top_le_iff.1 (show (⊤ : EReal) ≤ _ from hle)) (EReal.coe_ne_top _)
  | coe r => exact ⟨r, rfl, EReal.coe_le_coe_iff.1 (show ((|r| : ℝ) : EReal) ≤ _ from hle)⟩

/-- Under the precondition the product of the inputs with the gradient of gelu is bounded. -/
theorem small (G X : FVec Ideal Cert.KernelIdeal.S256x26624 .bf16)
    (h : Cert.Pre_grad_is_finite.fn (F := Ideal) G X = fun _ => 1#1) : Small (prod G X) := by
  intro r q
  unfold prod
  split
  · rename_i hb
    obtain ⟨g, e, hg⟩ := real_of_le (g := G (ix2 ⟨r, hb.1⟩ ⟨q, hb.2⟩)) (congrFun h _)
    rw [e]
    obtain ⟨d, ed, hd⟩ := Gelu.ref_bound g (X (ix2 ⟨r, hb.1⟩ ⟨q, hb.2⟩))
    exact ⟨d, ed, hd.trans (by linarith)⟩
  · exact ⟨0, rfl, by rw [abs_zero]; positivity⟩

/-- The reference's product, by row and column. -/
theorem isD (G X : FVec Ideal Cert.ReferenceIdeal.S256x26624 .bf16) :
    Cert.ReferenceIdeal.RefVal.Is (prod G X) (Cert.ReferenceIdeal.Ref.dg (F := Ideal) G X) := by
  intro i
  rw [Gelu.ref_apply]
  exact prod_of G X i rfl rfl

/-- The kernel's run: its five results from the arguments by row and column, and the arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v1) =
          (fun i : Cert.KernelIdeal.S26624.Idx => cSum (D m c) 0 (i 0 : ℕ) + cSum (D m c) 128 (i 0 : ℕ))
        ∧ r.2.mem ((c.tc : Thread Cert.KernelIdeal.nD Cert.KernelIdeal.τ).loc Cert.KernelIdeal.main_v0_1) =
          (fun i : Cert.KernelIdeal.S256x26624.Idx => rCode (D m c) (i 0 : ℕ) (i 1 : ℕ) (128 * ((i 1 : ℕ) / 128)))
        ∧ r.2.mem ((c.tc : Thread Cert.KernelIdeal.nD Cert.KernelIdeal.τ).loc Cert.KernelIdeal.main_v2) =
          (fun i : Cert.KernelIdeal.S256x208.Idx => scaleS (rV (D m c) (i 0 : ℕ) (128 * (i 1 : ℕ))))
        ∧ r.2.mem ((c.tc : Thread Cert.KernelIdeal.nD Cert.KernelIdeal.τ).loc Cert.KernelIdeal.main_v0_3) =
          (fun i : Cert.KernelIdeal.S26624x256.Idx => cCode (D m c) (i 1 : ℕ) (i 0 : ℕ) (128 * ((i 1 : ℕ) / 128)))
        ∧ r.2.mem ((c.tc : Thread Cert.KernelIdeal.nD Cert.KernelIdeal.τ).loc Cert.KernelIdeal.main_v3) =
          (fun i : Cert.KernelIdeal.S26624x2.Idx => scaleS (cV (D m c) (128 * (i 1 : ℕ)) (i 0 : ℕ)))
        ∧ r.2.mem ((c.tc : Thread Cert.KernelIdeal.nD Cert.KernelIdeal.τ).loc Cert.KernelIdeal.main_arg0) =
          m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) =
          m ((c.tc : Thread Cert.KernelIdeal.nD Cert.KernelIdeal.τ).loc Cert.KernelIdeal.main_arg1)) := by
  refine (θ_run _ _ _).mono (fun r h c => ?_) (Cert.KernelIdeal.Gen.run_main m g)
  refine ⟨((h c).2 Cert.KernelIdeal.main_v1 (Pipeline.mem_restRefs_of _ (by decide) (by decide))).trans
      (Cert.KernelIdeal.KernelTail.v1 m c),
    ((h c).1 3).trans (arr3 m c),
    ((h c).2 Cert.KernelIdeal.main_v2 (Pipeline.mem_restRefs_of _ (by decide) (by decide))).trans
      (Cert.KernelIdeal.KernelTail.v2 m c),
    ((h c).1 5).trans (arr5 m c),
    ((h c).2 Cert.KernelIdeal.main_v3 (Pipeline.mem_restRefs_of _ (by decide) (by decide))).trans
      (Cert.KernelIdeal.KernelTail.v3 m c),
    ((h c).1 0).trans (((Cert.KernelIdeal.Gen.dats m 0 c).arrAt_in 0 rfl _).trans
      ((Cert.KernelIdeal.Gen.A_eq m c 0).trans (Cert.KernelIdeal.Gen.V_main_arg0 m c))),
    ((h c).1 1).trans (((Cert.KernelIdeal.Gen.dats m 0 c).arrAt_in 1 rfl _).trans
      ((Cert.KernelIdeal.Gen.A_eq m c 1).trans (Cert.KernelIdeal.Gen.V_main_arg1 m c)))⟩

/-- The product of the reference's two arguments on a core, by row and column. -/
abbrev RD (m : (ℓ : Loc Cert.ReferenceIdeal.nD Cert.ReferenceIdeal.τ Cert.ReferenceIdeal.sig) → Buf (Elt Ideal) ℓ)
    (c : Dev Cert.ReferenceIdeal.nD) : ℕ → ℕ → EReal :=
  prod (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))

/-- The reference's run, for bounded products: its five results from the arguments by row and column, and the arguments
    unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) (hs : ∀ c, Small (RD m c)) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v32) =
          (fun i : Cert.KernelIdeal.S26624.Idx => cSum (RD m c) 0 (i 0 : ℕ) + cSum (RD m c) 128 (i 0 : ℕ))
        ∧ r.2.mem ((c.tc : Thread Cert.ReferenceIdeal.nD Cert.ReferenceIdeal.τ).loc Cert.ReferenceIdeal.main_v89_0) =
          (fun i : Cert.KernelIdeal.S256x26624.Idx => rCode (RD m c) (i 0 : ℕ) (i 1 : ℕ) (128 * ((i 1 : ℕ) / 128)))
        ∧ r.2.mem ((c.tc : Thread Cert.ReferenceIdeal.nD Cert.ReferenceIdeal.τ).loc Cert.ReferenceIdeal.main_v51) =
          (fun i : Cert.KernelIdeal.S256x208.Idx => scaleS (rV (RD m c) (i 0 : ℕ) (128 * (i 1 : ℕ))))
        ∧ r.2.mem ((c.tc : Thread Cert.ReferenceIdeal.nD Cert.ReferenceIdeal.τ).loc Cert.ReferenceIdeal.main_v89_1) =
          (fun i : Cert.KernelIdeal.S26624x256.Idx => cCode (RD m c) (i 1 : ℕ) (i 0 : ℕ) (128 * ((i 1 : ℕ) / 128)))
        ∧ r.2.mem ((c.tc : Thread Cert.ReferenceIdeal.nD Cert.ReferenceIdeal.τ).loc Cert.ReferenceIdeal.main_v88) =
          (fun i : Cert.KernelIdeal.S26624x2.Idx => scaleS (cV (RD m c) (128 * (i 1 : ℕ)) (i 0 : ℕ)))
        ∧ r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) =
          m ((c.tc : Thread Cert.ReferenceIdeal.nD Cert.ReferenceIdeal.τ).loc Cert.ReferenceIdeal.main_arg1)) := by
  refine (θ_run _ _ _).mono (fun r h c => ?_) (Cert.ReferenceIdeal.Gen.run_main m g)
  have hd := isD (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
  refine ⟨(((h c).2 Cert.ReferenceIdeal.main_v32 (Pipeline.mem_restRefs_of _ (by decide) (by decide))).trans
      (Cert.ReferenceIdeal.Ref.V_dbias m c)).trans (funext fun i => Cert.ReferenceIdeal.RefVal.dbias_of hd i),
    (((h c).1 2).trans (Cert.ReferenceIdeal.RefTail.arr2 m c)).trans
      (funext fun i => Cert.ReferenceIdeal.RefVal.row_of (hs c) hd i),
    (((h c).2 Cert.ReferenceIdeal.main_v51 (Pipeline.mem_restRefs_of _ (by decide) (by decide))).trans
      (Cert.ReferenceIdeal.Ref.V_rowScales m c)).trans
      (funext fun i => Cert.ReferenceIdeal.RefVal.rowScales_of (hs c) hd i),
    (((h c).1 3).trans (Cert.ReferenceIdeal.RefTail.arr3 m c)).trans
      (funext fun i => Cert.ReferenceIdeal.RefVal.col_of (hs c) hd i),
    (((h c).2 Cert.ReferenceIdeal.main_v88 (Pipeline.mem_restRefs_of _ (by decide) (by decide))).trans
      (Cert.ReferenceIdeal.Ref.V_colScales m c)).trans
      (funext fun i => Cert.ReferenceIdeal.RefVal.colScales_of (hs c) hd i),
    Cert.ReferenceIdeal.Value.kept_main_arg0 m r h c, Cert.ReferenceIdeal.Value.kept_main_arg1 m r h c⟩

/-- The kernel and the reference, over the reals, end with equal results for every gradient of finite bf16 numbers. -/
theorem algebraic : Cert.algebraic_KernelIdeal_ReferenceIdeal_pre_grad_is_finite := by
  intro m g m' g' hpre hagree
  have e : ∀ c, RD m' c = D m c := fun c =>
    congrArg₂ (fun G X : FVec Ideal Cert.KernelIdeal.S256x26624 .bf16 => prod G X) (hagree c).1 (hagree c).2
  have hs : ∀ c, Small (RD m' c) := fun c => by
    rw [e c]
    exact small _ _ (hpre c)
  refine ⟨_, _, _, _, _, kernel_run m g, ?_⟩
  have hr := reference_run m' g' hs
  simp only [e] at hr
  exact hr

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_grad_is_finite
public import proofs.«01_k».proof.Proof.Gen.ReferenceIdeal.Value
public import proofs.«01_k».proof.Proof.Consts
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the three programs, the kernel's named constants, and the equality of all five results. -/
theorem claim : Cert.Claim :=
  ⟨Cert.Kernel.Gen.facts, Cert.KernelIdeal.Gen.facts, Cert.ReferenceIdeal.Gen.facts, Cert.Pre_grad_is_finite.Gen.facts,
   fun m ρ _ => Cert.Kernel.Gen.frame m ρ, fun m ρ _ => Cert.KernelIdeal.Gen.frame m ρ,
   fun m ρ _ => Cert.KernelIdeal.Gen.frame m ρ, fun m ρ _ => Cert.ReferenceIdeal.Gen.frame m ρ,
   fun m ρ _ => Cert.ReferenceIdeal.Gen.frame m ρ, preserves, algebraic⟩

end Cert.Proof

end
